-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x384x6912 : Shape := ⟨3, ![1, 384, 6912]⟩
abbrev S6912x5120 : Shape := ⟨2, ![6912, 5120]⟩
abbrev S5120 : Shape := ⟨1, ![5120]⟩
abbrev S6912x16 : Shape := ⟨2, ![6912, 16]⟩
abbrev S16x5120 : Shape := ⟨2, ![16, 5120]⟩
abbrev S384x6912 : Shape := ⟨2, ![384, 6912]⟩
abbrev S1x5120 : Shape := ⟨2, ![1, 5120]⟩
abbrev S384x5120 : Shape := ⟨2, ![384, 5120]⟩
abbrev S384x1 : Shape := ⟨2, ![384, 1]⟩
abbrev S6912x512 : Shape := ⟨2, ![6912, 512]⟩
abbrev S1x512 : Shape := ⟨2, ![1, 512]⟩
abbrev S16x512 : Shape := ⟨2, ![16, 512]⟩
abbrev S384x512 : Shape := ⟨2, ![384, 512]⟩
abbrev S384x16 : Shape := ⟨2, ![384, 16]⟩
abbrev S384 : Shape := ⟨1, ![384]⟩

abbrev nBuf : Space → Nat
  | .hbm => 10
  | .vmem => 13
  | .smem => 0
  | _ => 0

abbrev bufTy : (tb : Table) → Fin (tcTables nBuf tb) → BufTy
  | .hbm, ⟨0, _⟩ => ⟨S1x384x6912, .bf16⟩
  | .hbm, ⟨1, _⟩ => ⟨S6912x5120, .fp8e4m3⟩
  | .hbm, ⟨2, _⟩ => ⟨S5120, .f32⟩
  | .hbm, ⟨3, _⟩ => ⟨S6912x16, .bf16⟩
  | .hbm, ⟨4, _⟩ => ⟨S16x5120, .bf16⟩
  | .hbm, ⟨5, _⟩ => ⟨S384x6912, .bf16⟩
  | .hbm, ⟨6, _⟩ => ⟨S1x5120, .f32⟩
  | .hbm, ⟨7, _⟩ => ⟨S384x5120, .bf16⟩
  | .hbm, ⟨8, _⟩ => ⟨S384x6912, .fp8e4m3⟩
  | .hbm, ⟨9, _⟩ => ⟨S384x1, .f32⟩
  | .local _ .vmem, ⟨0, _⟩ => ⟨S384x6912, .bf16⟩
  | .local _ .vmem, ⟨1, _⟩ => ⟨S6912x512, .fp8e4m3⟩
  | .local _ .vmem, ⟨2, _⟩ => ⟨S6912x512, .fp8e4m3⟩
  | .local _ .vmem, ⟨3, _⟩ => ⟨S1x512, .f32⟩
  | .local _ .vmem, ⟨4, _⟩ => ⟨S1x512, .f32⟩
  | .local _ .vmem, ⟨5, _⟩ => ⟨S6912x16, .bf16⟩
  | .local _ .vmem, ⟨6, _⟩ => ⟨S16x512, .bf16⟩
  | .local _ .vmem, ⟨7, _⟩ => ⟨S16x512, .bf16⟩
  | .local _ .vmem, ⟨8, _⟩ => ⟨S384x512, .bf16⟩
  | .local _ .vmem, ⟨9, _⟩ => ⟨S384x512, .bf16⟩
  | .local _ .vmem, ⟨10, _⟩ => ⟨S384x6912, .fp8e4m3⟩
  | .local _ .vmem, ⟨11, _⟩ => ⟨S384x1, .f32⟩
  | .local _ .vmem, ⟨12, _⟩ => ⟨S384x16, .bf16⟩
  | _, _ => ⟨S1x384x6912, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![10], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S384x6912 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S6912x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S6912x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S384x6912 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S1x384x6912 : Shape := ⟨3, ![1, 384, 6912]⟩
abbrev S6912x5120 : Shape := ⟨2, ![6912, 5120]⟩
abbrev S5120 : Shape := ⟨1, ![5120]⟩
abbrev S6912x16 : Shape := ⟨2, ![6912, 16]⟩
abbrev S16x5120 : Shape := ⟨2, ![16, 5120]⟩
abbrev S1x253 : Shape := ⟨2, ![1, 253]⟩
abbrev S384x6912 : Shape := ⟨2, ![384, 6912]⟩
abbrev S1x5120 : Shape := ⟨2, ![1, 5120]⟩
abbrev S384x5120 : Shape := ⟨2, ![384, 5120]⟩
abbrev S384x1 : Shape := ⟨2, ![384, 1]⟩
abbrev S384 : Shape := ⟨1, ![384]⟩
abbrev S384x253 : Shape := ⟨2, ![384, 253]⟩
abbrev S384x16 : Shape := ⟨2, ![384, 16]⟩

abbrev nBuf : Space → Nat
  | .hbm => 11
  | .vmem => 9
  | .smem => 0
  | _ => 0

abbrev bufTy : (tb : Table) → Fin (tcTables nBuf tb) → BufTy
  | .hbm, ⟨0, _⟩ => ⟨S1x384x6912, .bf16⟩
  | .hbm, ⟨1, _⟩ => ⟨S6912x5120, .fp8e4m3⟩
  | .hbm, ⟨2, _⟩ => ⟨S5120, .f32⟩
  | .hbm, ⟨3, _⟩ => ⟨S6912x16, .bf16⟩
  | .hbm, ⟨4, _⟩ => ⟨S16x5120, .bf16⟩
  | .hbm, ⟨5, _⟩ => ⟨S1x253, .f32⟩
  | .hbm, ⟨6, _⟩ => ⟨S384x6912, .bf16⟩
  | .hbm, ⟨7, _⟩ => ⟨S1x5120, .f32⟩
  | .hbm, ⟨8, _⟩ => ⟨S384x5120, .bf16⟩
  | .hbm, ⟨9, _⟩ => ⟨S384x6912, .fp8e4m3⟩
  | .hbm, ⟨10, _⟩ => ⟨S384x1, .f32⟩
  | .local _ .vmem, ⟨0, _⟩ => ⟨S384x6912, .bf16⟩
  | .local _ .vmem, ⟨1, _⟩ => ⟨S6912x5120, .fp8e4m3⟩
  | .local _ .vmem, ⟨2, _⟩ => ⟨S1x5120, .f32⟩
  | .local _ .vmem, ⟨3, _⟩ => ⟨S6912x16, .bf16⟩
  | .local _ .vmem, ⟨4, _⟩ => ⟨S16x5120, .bf16⟩
  | .local _ .vmem, ⟨5, _⟩ => ⟨S1x253, .f32⟩
  | .local _ .vmem, ⟨6, _⟩ => ⟨S384x5120, .bf16⟩
  | .local _ .vmem, ⟨7, _⟩ => ⟨S384x6912, .fp8e4m3⟩
  | .local _ .vmem, ⟨8, _⟩ => ⟨S384x1, .f32⟩
  | _, _ => ⟨S1x384x6912, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S384x6912 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6912x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6912x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x253 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S384x5120 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S384x6912 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S384x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Powers.lean ====
/-
  The quantiser's arithmetic on one row, over the extended reals: the powers of two as float32 words, the search for the exponent of a
  row's ratio, and that the scale and its reciprocal built from that exponent are the least power of two above the ratio and one over it.
-/
module

public import Idealize.ShloMosaic.PureOps.Ideal.Laws
public import Idealize.ShloMosaic.Lib.IdealHost

@[expose] public section

noncomputable section

namespace Cert.Quant

open Idealize.ShloMosaic

/-! ## The powers of two -/

/-- The value of the float32 word with exponent field `n` and significand zero: `0`, then the powers `2 ^ (n - 127)`, then infinity. -/
def pw (n : ℕ) : EReal := Ideal.ofBits .f32 (BitVec.ofNat 32 (n * 2 ^ 23))

theorem word_fields : ∀ n : Fin 256, (BitVec.ofNat 32 (n.val * 2 ^ 23)).extractLsb' 31 1 = 0#1
    ∧ ((BitVec.ofNat 32 (n.val * 2 ^ 23)).extractLsb' 23 8).toNat = n.val
    ∧ ((BitVec.ofNat 32 (n.val * 2 ^ 23)).extractLsb' 0 23).toNat = 0 := by decide +kernel

theorem pw_zero : pw 0 = 0 := by simp [pw]

theorem pw_top : pw 255 = ⊤ := by simp [pw, Ideal.ofBits, Ideal.ieee]

theorem pw_mid (n : ℕ) (h1 : 1 ≤ n) (h2 : n < 255) : pw n = (((2 : ℝ) ^ ((n : ℤ) - 127) : ℝ) : EReal) := by
  obtain ⟨hs, he, hf⟩ := word_fields ⟨n, by omega⟩
  simp only at hs he hf
  unfold pw Ideal.ofBits Ideal.ieee
  simp only [show 8 + 23 = 31 from rfl, hs, he, hf]
  rw [if_neg (by norm_num; omega), if_neg (by omega)]
  congr 1
  have : ((0#1 : BitVec 1) == 1#1) = false := rfl
  simp only [this]
  rw [show ((n : ℤ) - (2 ^ (8 - 1) - 1) - (23 : ℕ)) = ((n : ℤ) - 127) + (-23) by norm_num; ring, zpow_add₀ (by norm_num)]
  norm_num
  ring

theorem pw_lt {n k : ℕ} (h : n < k) (hk : k ≤ 255) : pw n < pw k := by
  rcases Nat.eq_zero_or_pos n with rfl | hn
  · rw [pw_zero]
    rcases Nat.lt_or_ge k 255 with h' | h'
    · rw [pw_mid k h h']
      exact_mod_cast zpow_pos (by norm_num : (0 : ℝ) < 2) _
    · rw [show k = 255 by omega, pw_top]; exact EReal.zero_lt_top
  · rw [pw_mid n hn (by omega)]
    rcases Nat.lt_or_ge k 255 with h' | h'
    · rw [pw_mid k (by omega) h']
      exact EReal.coe_lt_coe_iff.mpr (zpow_lt_zpow_right₀ (by norm_num) (by omega))
    · rw [show k = 255 by omega, pw_top]; exact EReal.coe_lt_top _

theorem pw_le {n k : ℕ} (h : n ≤ k) (hk : k ≤ 255) : pw n ≤ pw k := by
  rcases Nat.eq_or_lt_of_le h with rfl | h
  · exact le_rfl
  · exact (pw_lt h hk).le

theorem pw_one : pw 127 = 1 := by
  rw [pw_mid 127 (by omega) (by omega)]; norm_num

/-- One over a power of two, where that lies in the normal range. -/
theorem div_pw (n : ℕ) (h1 : 1 ≤ n) (h2 : n ≤ 253) : Ideal.div 1 (pw n) = pw (254 - n) := by
  have hne : pw n ≠ 0 := by
    have := pw_lt (show 0 < n by omega) (show n ≤ 255 by omega)
    rw [pw_zero] at this; exact this.ne'
  unfold Ideal.div
  rw [if_neg hne, one_mul, pw_mid n h1 (by omega), pw_mid (254 - n) (by omega) (by omega), ← EReal.coe_inv, ← zpow_neg]
  congr 2
  omega

/-! ## The search for the exponent field -/

/-- One step of the search: keep the larger candidate if its power is at most the ratio. -/
def step (v : EReal) (e b : BitVec 32) : BitVec 32 :=
  if Ideal.ofBits .f32 ((e + b) <<< 23#32) ≤ v then e + b else e

/-- The same on numbers. -/
def nstep (v : EReal) (n b : ℕ) : ℕ := if pw (n + b) ≤ v then n + b else n

theorem step_ofNat (v : EReal) (n b : ℕ) (h : n + b ≤ 255) :
    step v (BitVec.ofNat 32 n) (BitVec.ofNat 32 b) = BitVec.ofNat 32 (nstep v n b) := by
  have e1 : BitVec.ofNat 32 n + BitVec.ofNat 32 b = BitVec.ofNat 32 (n + b) := by
    rw [BitVec.ofNat_add]
  have e2 : (BitVec.ofNat 32 (n + b)) <<< 23#32 = BitVec.ofNat 32 ((n + b) * 2 ^ 23) := by
    have : ∀ k : Fin 256, (BitVec.ofNat 32 k.val) <<< 23#32 = BitVec.ofNat 32 (k.val * 2 ^ 23) := by decide +kernel
    exact this ⟨n + b, by omega⟩
  unfold step nstep
  rw [e1, e2]
  show (if pw (n + b) ≤ v then _ else _) = _
  split <;> rfl

/-- What the search knows: the field lies in `[n, n + w)`. -/
def Known (v : EReal) (n w : ℕ) : Prop := pw n ≤ v ∧ (∀ k, n + w ≤ k → k ≤ 255 → v < pw k) ∧ n + w ≤ 256

theorem Known.step {v : EReal} {n : ℕ} (b : ℕ) (hb : 0 < b) (h : Known v n (2 * b)) : Known v (nstep v n b) b := by
  obtain ⟨h1, h2, h3⟩ := h
  unfold nstep
  split
  · next hc => exact ⟨hc, fun k hk hk' => h2 k (by omega) hk', by omega⟩
  · next hc => exact ⟨h1, fun k hk hk' => lt_of_lt_of_le (not_le.mp hc) (pw_le hk hk'), by omega⟩

/-- The search: eight steps. -/
def search5 (v : EReal) : BitVec 32 :=
  step v (step v (step v (step v (step v 0#32 128#32) 64#32) 32#32) 16#32) 8#32
def search8 (v : EReal) (e : BitVec 32) : BitVec 32 := step v (step v (step v e 4#32) 2#32) 1#32

theorem search_spec (v : EReal) (hv : 0 ≤ v) :
    ∃ n : ℕ, search8 v (search5 v) = BitVec.ofNat 32 n ∧ n ≤ 255 ∧ pw n ≤ v ∧ ∀ k, n < k → k ≤ 255 → v < pw k := by
  have k0 : Known v 0 (2 * 128) := ⟨by rw [pw_zero]; exact hv, fun k h h' => by omega, by omega⟩
  have k1 := k0.step 128 (by omega)
  have k2 := k1.step (b := 64) (by omega)
  have k3 := k2.step (b := 32) (by omega)
  have k4 := k3.step (b := 16) (by omega)
  have k5 := k4.step (b := 8) (by omega)
  have k6 := k5.step (b := 4) (by omega)
  have k7 := k6.step (b := 2) (by omega)
  have k8 := k7.step (b := 1) (by omega)
  refine ⟨_, ?_, ?_, k8.1, fun k hk hk' => k8.2.1 k (by omega) hk'⟩
  · unfold search8 search5
    rw [show (0#32 : BitVec 32) = BitVec.ofNat 32 0 from rfl,
      step_ofNat v _ 128 (by have := k0.2.2; omega), step_ofNat v _ 64 (by have := k1.2.2; omega),
      step_ofNat v _ 32 (by have := k2.2.2; omega), step_ofNat v _ 16 (by have := k3.2.2; omega),
      step_ofNat v _ 8 (by have := k4.2.2; omega), step_ofNat v _ 4 (by have := k5.2.2; omega),
      step_ofNat v _ 2 (by have := k6.2.2; omega), step_ofNat v _ 1 (by have := k7.2.2; omega)]
  · have := k8.2.2; omega

/-! ## The kernel's scale and reciprocal, from the field found -/

/-- The kernel's exponent of the scale, from the row's largest magnitude `a` and the field `E`. -/
def expo (a : EReal) (E : BitVec 32) : BitVec 32 :=
  if a = 0 then 0#32 else if E = 0#32 ∨ E = 255#32 then 0#32 else E - 126#32

/-- `2 ^ e`, zero where that is below the normal range. -/
def powWord (e : BitVec 32) : EReal :=
  Ideal.ofBits .f32 (IntOp.maxsi (e + 127#32) 0#32 <<< 23#32)

theorem powWord_zero : powWord 0#32 = 1 := by
  rw [← pw_one]; unfold powWord pw; congr 1

theorem powWord_scale (n : ℕ) (h1 : 1 ≤ n) (h2 : n ≤ 254) : powWord (BitVec.ofNat 32 n - 126#32) = pw (n + 1) := by
  have : ∀ n : Fin 255, 1 ≤ n.val → IntOp.maxsi ((BitVec.ofNat 32 n.val - 126#32) + 127#32) 0#32 <<< 23#32
      = BitVec.ofNat 32 ((n.val + 1) * 2 ^ 23) := by decide +kernel
  unfold powWord pw; rw [this ⟨n, by omega⟩ h1]

theorem powWord_inv (n : ℕ) (h1 : 1 ≤ n) (h2 : n ≤ 254) : powWord (0#32 - (BitVec.ofNat 32 n - 126#32)) = pw (253 - n) := by
  have : ∀ n : Fin 255, 1 ≤ n.val → IntOp.maxsi ((0#32 - (BitVec.ofNat 32 n.val - 126#32)) + 127#32) 0#32 <<< 23#32
      = BitVec.ofNat 32 ((253 - n.val) * 2 ^ 23) := by decide +kernel
  unfold powWord pw; rw [this ⟨n, by omega⟩ h1]

/-! ## The reference's -/

/-- The least power of two above `v` (of the table's, else infinity). -/
def least (v : EReal) : EReal :=
  (Finset.univ : Finset (Fin 253)).fold min ⊤ fun k => if v < pw (k.val + 2) then pw (k.val + 2) else ⊤

/-- The reference's scale of a row, from its largest magnitude `a` and its ratio `v`. -/
def scaleR (a v : EReal) : EReal := if a = 0 then 1 else if pw 1 ≤ v ∧ v < ⊤ then least v else 1

theorem least_eq (v : EReal) (n : ℕ) (h1 : 1 ≤ n) (h2 : n ≤ 254) (hle : pw n ≤ v) (hlt : ∀ k, n < k → k ≤ 255 → v < pw k) :
    least v = pw (n + 1) := by
  apply le_antisymm
  · unfold least
    rcases Nat.lt_or_ge n 254 with h | h
    · refine (Finset.fold_min_le _).mpr (.inr ⟨⟨n - 1, by omega⟩, Finset.mem_univ _, ?_⟩)
      simp only [show n - 1 + 2 = n + 1 by omega]
      rw [if_pos (hlt _ (by omega) (by omega))]
    · rw [show n + 1 = 255 by omega, pw_top]; exact le_top
  · unfold least
    refine (Finset.le_fold_min _).mpr ⟨le_top, fun k _ => ?_⟩
    split
    · next h =>
      refine pw_le ?_ (by have := k.isLt; omega)
      by_contra hc
      exact absurd (lt_of_le_of_lt hle h) (not_lt.mpr (pw_le (by omega) (by omega)))
    · exact le_top

/-- THE ROW LEMMA: the kernel's scale is the reference's, and its reciprocal is one over it (zero where that is below the normal range). -/
theorem row_eq (a v : EReal) (hv : 0 ≤ v) (ha : a = 0 → v = 0) :
    powWord (expo a (search8 v (search5 v))) = scaleR a v
    ∧ powWord (0#32 - expo a (search8 v (search5 v))) = if pw 253 < scaleR a v then 0 else Ideal.div 1 (scaleR a v) := by
  have hone : (if pw 253 < (1 : EReal) then 0 else Ideal.div 1 1) = (1 : EReal) := by
    have h := div_pw 127 (by omega) (by omega)
    rw [show 254 - 127 = 127 from rfl, pw_one] at h
    rw [h]
    split
    · next hc => exact absurd hc (not_lt.mpr (by rw [← pw_one]; exact pw_le (by omega) (by omega)))
    · rfl
  obtain ⟨n, hE, hn, hle, hlt⟩ := search_spec v hv
  rw [hE]
  unfold expo scaleR
  by_cases h0 : a = 0
  · simp only [if_pos h0]
    refine ⟨powWord_zero, ?_⟩
    rw [hone, show (0#32 - 0#32 : BitVec 32) = 0#32 from rfl, powWord_zero]
  simp only [if_neg h0]
  rcases Nat.eq_zero_or_pos n with rfl | hp
  · have hr : ¬(pw 1 ≤ v ∧ v < ⊤) := fun h => absurd h.1 (not_le.mpr (hlt 1 (by omega) (by omega)))
    rw [if_neg hr, if_pos (show BitVec.ofNat 32 0 = 0#32 ∨ BitVec.ofNat 32 0 = 255#32 from .inl rfl), show (0#32 - 0#32 : BitVec 32) = 0#32 from rfl, powWord_zero, hone]
    exact ⟨rfl, rfl⟩
  rcases Nat.lt_or_ge n 255 with h254 | h255
  · have hr : pw 1 ≤ v ∧ v < ⊤ :=
      ⟨le_trans (pw_le (by omega) (by omega)) hle, by rw [← pw_top]; exact hlt 255 (by omega) (by omega)⟩
    have hne : ¬(BitVec.ofNat 32 n = 0#32 ∨ BitVec.ofNat 32 n = 255#32) := by
      have : ∀ n : Fin 255, 1 ≤ n.val → ¬(BitVec.ofNat 32 n.val = 0#32 ∨ BitVec.ofNat 32 n.val = 255#32) := by decide +kernel
      exact this ⟨n, h254⟩ hp
    simp only [if_pos hr, if_neg hne]
    rw [least_eq v n hp (by omega) hle hlt, powWord_scale n hp (by omega), powWord_inv n hp (by omega)]
    refine ⟨rfl, ?_⟩
    rcases Nat.lt_or_ge n 253 with h | h
    · rw [if_neg (not_lt.mpr (pw_le (by omega) (by omega))), div_pw (n + 1) (by omega) (by omega), show 254 - (n + 1) = 253 - n by omega]
    · rw [if_pos (pw_lt (by omega) (by omega)), show 253 - n = 0 by omega, pw_zero]
  · obtain rfl : n = 255 := by omega
    have hr : ¬(pw 1 ≤ v ∧ v < ⊤) := fun h => absurd h.2 (not_lt.mpr (by rw [← pw_top]; exact hle))
    rw [if_neg hr, if_pos (show BitVec.ofNat 32 255 = 0#32 ∨ BitVec.ofNat 32 255 = 255#32 from .inr rfl), show (0#32 - 0#32 : BitVec 32) = 0#32 from rfl, powWord_zero, hone]
    exact ⟨rfl, rfl⟩

end Cert.Quant

end
-- ==== Proof.Row.lean ====
/-
  The quantiser's row quantities as extended reals: the largest magnitude, the ratio, the scale's inverse, the code.
-/
module

public import proofs.«01_k».proof.Proof.Powers
public import Idealize.ShloMosaic.Lib.Pointwise.Tactic

@[expose] public section

set_option maxRecDepth 16384

noncomputable section

namespace Cert.Quant

open Idealize.ShloMosaic Idealize.ShloMosaic.TcCoe Idealize.ShloMosaic.Tactic
open Idealize.SL Idealize.SL.Sem

/-- The float32 constant the largest magnitude is multiplied by: one over 448, rounded. -/
def cInv : EReal := Ideal.ofBits .f32 0x3B124925#32

/-- The largest magnitude of row `r`. -/
def rowMax (x : (⟨2, ![384, 6912]⟩ : Shape).Idx → EReal) (r : Fin 384) : EReal :=
  (Finset.univ : Finset (Fin 6912)).fold max ⊥ fun k => max (x (ix2 r k)) (-(x (ix2 r k)))

theorem cInv_nonneg : 0 ≤ cInv := by
  have : cInv = (((2 ^ 23 + 1198373 : ℕ) * (2 : ℝ) ^ (-32 : ℤ) : ℝ) : EReal) := by
    simp [cInv, Ideal.ofBits, Ideal.ieee]
  rw [this]
  exact EReal.coe_nonneg.mpr (by positivity)

theorem rowMax_nonneg (x : (⟨2, ![384, 6912]⟩ : Shape).Idx → EReal) (r : Fin 384) : 0 ≤ rowMax x r := by
  unfold rowMax
  refine (Finset.le_fold_max _).mpr (.inr ⟨0, Finset.mem_univ _, ?_⟩)
  rcases le_total 0 (x (ix2 r 0)) with h | h
  · exact le_max_of_le_left h
  · exact le_max_of_le_right (EReal.neg_nonneg.mpr h)

/-- The ratio of row `r`. -/
def ratio (x : (⟨2, ![384, 6912]⟩ : Shape).Idx → EReal) (r : Fin 384) : EReal := rowMax x r * cInv

theorem ratio_nonneg (x : (⟨2, ![384, 6912]⟩ : Shape).Idx → EReal) (r : Fin 384) : 0 ≤ ratio x r :=
  mul_nonneg (rowMax_nonneg x r) cInv_nonneg

/-- What the reference multiplies row `r` by. -/
def invR (x : (⟨2, ![384, 6912]⟩ : Shape).Idx → EReal) (r : Fin 384) : EReal :=
  if pw 253 < scaleR (rowMax x r) (ratio x r) then 0 else Ideal.div 1 (scaleR (rowMax x r) (ratio x r))

/-- The code of element `z`, from what it is multiplied by. -/
def code (z s : EReal) : EReal :=
  min (Ideal.ofBits .f32 0x43E00000#32) (max (Ideal.ofBits .f32 0xC3E00000#32) (z * s))

end Cert.Quant

end
-- ==== Proof.KernelBody.lean ====
/-
  The body of the idealized kernel, run once at its first point and once at any later point.
-/
module

public import proofs.«01_k».proof.Proof.Gen.KernelIdeal.Frame
public import proofs.«01_k».proof.Proof.Gen.KernelIdeal.Skeleton
public import Idealize.ShloMosaic.Lib.VecWindow
public import Idealize.ShloMosaic.Lib.Pipeline.ValueKit
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The quantised activations of the block `x`. -/
def codesOf (x : Vec F S384x6912 .bf16) : Vec F S384x6912 .fp8e4m3 :=
  k0_pay1 (k0_pay4 x) (k0_pay10 (k0_pay5 x) (k0_pay6 x) (k0_pay7 x)) 127#32

/-- The scales of the rows of `x`. -/
def scaleOf (x : Vec F S384x6912 .bf16) : Vec F S384x1 .f32 :=
  k0_pay9 (k0_pay5 x) (k0_pay6 x) (k0_pay7 x)

/-- The low-rank product of `x` by the first adapter matrix. -/
def lowOf (x : Vec F S384x6912 .bf16) (a : Vec F S6912x16 .bf16) : Vec F S384x16 .bf16 :=
  k0_pay2 (k0_pay4 x) a

set_option maxHeartbeats 1000000 in
/-- The body at a LATER point: it reads the codes, the scales and the low-rank product that the first point left, leaves them in place, and stores
    its own column tile of the result. -/
theorem runB (c : Dev nD) (i : grid0.Coords) (arg1 : Memref sig .tc .vmem S384x6912 .bf16) (harg1 : arg1.IsWhole) (arg2 : Memref sig .tc .vmem S6912x512 .fp8e4m3) (harg2 : arg2.IsWhole) (arg3 : Memref sig .tc .vmem S1x512 .f32) (harg3 : arg3.IsWhole) (arg4 : Memref sig .tc .vmem S6912x16 .bf16) (harg4 : arg4.IsWhole) (arg5 : Memref sig .tc .vmem S16x512 .bf16) (harg5 : arg5.IsWhole) (arg6 : Memref sig .tc .vmem S384x512 .bf16) (harg6 : arg6.IsWhole) (arg7 : Memref sig .tc .vmem S384x6912 .fp8e4m3) (harg7 : arg7.IsWhole) (arg8 : Memref sig .tc .vmem S384x1 .f32) (harg8 : arg8.IsWhole) (arg9 : Memref sig .tc .vmem S384x16 .bf16) (harg9 : arg9.IsWhole) (hc0 : ¬k0_cond1 i = 1#1)
    (x0 : Vec F S384x6912 .bf16) (x1 : Vec F S6912x512 .fp8e4m3) (x2 : Vec F S1x512 .f32) (x3 : Vec F S6912x16 .bf16) (x4 : Vec F S16x512 .bf16) (xc : Vec F S384x6912 .fp8e4m3) (xs : Vec F S384x1 .f32) (xt : Vec F S384x16 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xc ∗ owns (c : Thread nD τ) arg8 fullShare xs ∗ owns (c : Thread nD τ) arg9 fullShare xt
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay3 xc x1 xt x4 xs x2) ∗ owns (c : Thread nD τ) arg7 fullShare xc ∗ owns (c : Thread nD τ) arg8 fullShare xs ∗ owns (c : Thread nD τ) arg9 fullShare xt) -∗ K ⟨⟩))
      ⊢ wp frame (wpE (defs₀ (F := F)) Variants.none c none) E (cc0_fp8_linear_lora i arg1 harg1 arg2 harg2 arg3 harg3 arg4 harg4 arg5 harg5 arg6 harg6 arg7 harg7 arg8 harg8 arg9 harg9) K := by
  simp only [cc0_fp8_linear_lora_eq_skeleton]; unfold cc0_fp8_linear_lora_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7; obtain rfl := harg9.eq_unread hf8
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro; (refine (View.read_writes_full _ _ _ _ _).trans ?_; sl_unfold_words; simp (disch := decide) only [View.readAt_eq_ld, View.ld_unit_lit', View.readCov_cons_unit_lit', Memref.IsWhole.read_unread]; try rfl)
  isplitl [H6]
  · iexists _; isplitr; · ipureintro; exact harg7.read_unread _
    iexact H6
  isplitl [H7]
  · iexists _; isplitr; · ipureintro; exact harg8.read_unread _
    iexact H7
  iexists _; isplitr; · ipureintro; exact harg9.read_unread _
  iexact H8

set_option maxHeartbeats 1000000 in
/-- The body at the FIRST point: from the inputs' staging memrefs at their blocks and the outputs' and the scratch at anything, it leaves the quantised
    activations, their scales, the low-rank product in the scratch, and the first column tile of the result. -/
theorem runA (c : Dev nD) (i : grid0.Coords) (arg1 : Memref sig .tc .vmem S384x6912 .bf16) (harg1 : arg1.IsWhole) (arg2 : Memref sig .tc .vmem S6912x512 .fp8e4m3) (harg2 : arg2.IsWhole) (arg3 : Memref sig .tc .vmem S1x512 .f32) (harg3 : arg3.IsWhole) (arg4 : Memref sig .tc .vmem S6912x16 .bf16) (harg4 : arg4.IsWhole) (arg5 : Memref sig .tc .vmem S16x512 .bf16) (harg5 : arg5.IsWhole) (arg6 : Memref sig .tc .vmem S384x512 .bf16) (harg6 : arg6.IsWhole) (arg7 : Memref sig .tc .vmem S384x6912 .fp8e4m3) (harg7 : arg7.IsWhole) (arg8 : Memref sig .tc .vmem S384x1 .f32) (harg8 : arg8.IsWhole) (arg9 : Memref sig .tc .vmem S384x16 .bf16) (harg9 : arg9.IsWhole) (hc0 : k0_cond1 i = 1#1)
    (x0 : Vec F S384x6912 .bf16) (x1 : Vec F S6912x512 .fp8e4m3) (x2 : Vec F S1x512 .f32) (x3 : Vec F S6912x16 .bf16) (x4 : Vec F S16x512 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay3 (codesOf x0) x1 (lowOf x0 x3) x4 (scaleOf x0) x2) ∗ owns (c : Thread nD τ) arg7 fullShare (codesOf x0) ∗ owns (c : Thread nD τ) arg8 fullShare (scaleOf x0) ∗ owns (c : Thread nD τ) arg9 fullShare (lowOf x0 x3)) -∗ K ⟨⟩))
      ⊢ wp frame (wpE (defs₀ (F := F)) Variants.none c none) E (cc0_fp8_linear_lora i arg1 harg1 arg2 harg2 arg3 harg3 arg4 harg4 arg5 harg5 arg6 harg6 arg7 harg7 arg8 harg8 arg9 harg9) K := by
  simp only [cc0_fp8_linear_lora_eq_skeleton]; unfold cc0_fp8_linear_lora_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro; (refine (View.read_writes_full _ _ _ _ _).trans ?_; sl_unfold_words; simp (disch := decide) only [View.readAt_eq_ld, View.ld_unit_lit', View.readCov_cons_unit_lit', Memref.IsWhole.read_unread]; try rfl)
  isplitl [H6]
  · iexists _; isplitr; swap; · iexact H6
    ipureintro; (refine (View.read_writes_full _ _ _ _ _).trans ?_; sl_unfold_words; simp (disch := decide) only [View.readAt_eq_ld, View.ld_unit_lit', View.readCov_cons_unit_lit', Memref.IsWhole.read_unread]; try rfl)
  isplitl [H7]
  · iexists _; isplitr; swap; · iexact H7
    ipureintro; (refine (View.read_writes_full _ _ _ _ _).trans ?_; sl_unfold_words; simp (disch := decide) only [View.readAt_eq_ld, View.ld_unit_lit', View.readCov_cons_unit_lit', Memref.IsWhole.read_unread]; try rfl)
  iexists _; isplitr; swap; · iexact H8
  ipureintro; (refine (View.read_writes_full _ _ _ _ _).trans ?_; sl_unfold_words; simp (disch := decide) only [View.readAt_eq_ld, View.ld_unit_lit', View.readCov_cons_unit_lit', Memref.IsWhole.read_unread]; try rfl)

end Cert.KernelIdeal.Body

end
-- ==== Proof.KernelQuant.lean ====
/-
  The kernel's quantiser read at an element: its scales and its codes from each row's largest magnitude.
-/
module

public import proofs.«01_k».proof.Proof.Row
public import proofs.«01_k».proof.Proof.KernelBody

@[expose] public section

set_option maxRecDepth 16384

noncomputable section

namespace Cert.Quant

open Idealize.ShloMosaic Idealize.ShloMosaic.TcCoe Idealize.ShloMosaic.Tactic
open Idealize.SL Idealize.SL.Sem
open Cert.KernelIdeal Cert.KernelIdeal.Gen Cert.KernelIdeal.Body

theorem neg_inf_bf16 : Ideal.ofBits .bf16 0xFF80#16 = ⊥ := by simp [Ideal.ofBits, Ideal.ieee]

theorem k4 (x : Vec Ideal S384x6912 .bf16) : k0_pay4 x = x := by
  unfold k0_pay4
  funext j
  pointwise

theorem k5 (x : Vec Ideal S384x6912 .bf16) (j : S384x1.Idx) : k0_pay5 x j = rowMax x (j 0) := by
  unfold k0_pay5
  rw [k4]
  pointwise
  rw [neg_inf_bf16]
  rfl

theorem abs_mul (a : FVec Ideal S384x1 .f32) (j : S384x1.Idx) :
    absf (mulf a (broadcast S384x1 (Scalar.ofBits .f32 0x3B124925#32))) j = max (a j * cInv) (-(a j * cInv)) := rfl

theorem kpay6_eq (x : Vec Ideal S384x6912 .bf16) :
    k0_pay6 x = absf (mulf (k0_pay5 x) (broadcast S384x1 (Scalar.ofBits .f32 0x3B124925#32))) := by
  unfold k0_pay6
  rfl

theorem max_neg_self (v : EReal) (h : 0 ≤ v) : max v (-v) = v :=
  max_eq_left (le_trans (EReal.neg_le_zero.mpr h) h)

theorem k6 (x : Vec Ideal S384x6912 .bf16) (j : S384x1.Idx) : k0_pay6 x j = ratio x (j 0) := by
  have h := max_neg_self (ratio x (j 0)) (ratio_nonneg x (j 0))
  unfold ratio at h ⊢
  rw [kpay6_eq, abs_mul, k5]
  exact h

/-- One step of the search, on vectors. -/
theorem stepVec (V : FVec Ideal S384x1 .f32) (e : IVec S384x1 32) (b : BitVec 32) (j : S384x1.Idx) :
    select (cmpf .oge V (bitcastToFloat .f32 (shli (addi e (broadcast S384x1 b)) (broadcast S384x1 23#32)))) (addi e (broadcast S384x1 b)) e j
      = step (V j) (e j) b := by
  show (if BitVec.ofBool (decide (_ ≤ _)) = 1#1 then _ else _) = _
  unfold step
  by_cases h : Ideal.ofBits .f32 ((e j + b) <<< 23#32) ≤ V j
  · rw [if_pos h]; exact if_pos (congrArg BitVec.ofBool (decide_eq_true h))
  · rw [if_neg h]; exact if_neg (fun h' => absurd ((congrArg BitVec.ofBool (decide_eq_false h)).symm.trans h') (by decide))

theorem k7 (x : Vec Ideal S384x6912 .bf16) (j : S384x1.Idx) : k0_pay7 x j = search5 (ratio x (j 0)) := by
  unfold k0_pay7 search5
  rw [← k6]
  refine (stepVec _ _ _ j).trans (congrArg (fun e => step _ e 8#32) ?_)
  refine (stepVec _ _ _ j).trans (congrArg (fun e => step _ e 16#32) ?_)
  refine (stepVec _ _ _ j).trans (congrArg (fun e => step _ e 32#32) ?_)
  refine (stepVec _ _ _ j).trans (congrArg (fun e => step _ e 64#32) ?_)
  exact stepVec _ _ _ j

/-- The end of the search and the choice of the exponent, on vectors. -/
def last3 (V : FVec Ideal S384x1 .f32) (e : IVec S384x1 32) : IVec S384x1 32 :=
  have v68 : IVec S384x1 32 := broadcast S384x1 4#32
  have v69 : IVec S384x1 32 := addi e v68
  have v70 : IVec S384x1 32 := broadcast S384x1 23#32
  have v71 : IVec S384x1 32 := shli v69 v70
  have v72 : FVec Ideal S384x1 .f32 := bitcastToFloat .f32 v71
  have v73 : IVec S384x1 1 := cmpf .oge V v72
  have v74 : IVec S384x1 32 := select v73 v69 e
  have v75 : IVec S384x1 32 := broadcast S384x1 2#32
  have v76 : IVec S384x1 32 := addi v74 v75
  have v77 : IVec S384x1 32 := broadcast S384x1 23#32
  have v78 : IVec S384x1 32 := shli v76 v77
  have v79 : FVec Ideal S384x1 .f32 := bitcastToFloat .f32 v78
  have v80 : IVec S384x1 1 := cmpf .oge V v79
  have v81 : IVec S384x1 32 := select v80 v76 v74
  have v82 : IVec S384x1 32 := broadcast S384x1 1#32
  have v83 : IVec S384x1 32 := addi v81 v82
  have v84 : IVec S384x1 32 := broadcast S384x1 23#32
  have v85 : IVec S384x1 32 := shli v83 v84
  have v86 : FVec Ideal S384x1 .f32 := bitcastToFloat .f32 v85
  have v87 : IVec S384x1 1 := cmpf .oge V v86
  have v88 : IVec S384x1 32 := select v87 v83 v81
  v88

theorem last3_apply (V : FVec Ideal S384x1 .f32) (e : IVec S384x1 32) (j : S384x1.Idx) : last3 V e j = search8 (V j) (e j) := by
  unfold last3 search8
  refine (stepVec _ _ _ j).trans (congrArg (fun e => step _ e 1#32) ?_)
  refine (stepVec _ _ _ j).trans (congrArg (fun e => step _ e 2#32) ?_)
  exact stepVec _ _ _ j

theorem expo_vec (a : EReal) (E : BitVec 32) :
    Scalar.select (FloatOps.cmpf (F := Ideal) (φ := .f32) .oeq a (Ideal.ofBits .f32 0x00000000#32)) 0#32
      (Scalar.select (IntOp.ori (IntOp.cmpi .eq E 0#32) (IntOp.cmpi .eq E 255#32)) 0#32 (E - 126#32)) = expo a E := by
  rw [Ideal.ofBits_zero_f32]
  show (if BitVec.ofBool (decide (a = 0)) = 1#1 then _ else if BitVec.ofBool (E == 0#32) ||| BitVec.ofBool (E == 255#32) = 1#1 then _ else _) = _
  unfold expo
  by_cases h : a = 0
  · simp only [h, decide_true, if_true]; rfl
  · by_cases h0 : E = 0#32
    · subst h0; simp [h]
    · by_cases h1 : E = 255#32
      · subst h1; simp [h]
      · have e0 : (E == 0#32) = false := beq_eq_false_iff_ne.mpr h0
        have e1 : (E == 255#32) = false := beq_eq_false_iff_ne.mpr h1
        rw [e0, e1]; simp [h, h0, h1]

/-- The choice of the exponent, on vectors. -/
def expoVec (a : FVec Ideal S384x1 .f32) (E : IVec S384x1 32) : IVec S384x1 32 :=
  have v89 : IVec S384x1 32 := broadcast S384x1 0#32
  have v90 : IVec S384x1 1 := cmpi .eq E v89
  have v91 : IVec S384x1 32 := broadcast S384x1 255#32
  have v92 : IVec S384x1 1 := cmpi .eq E v91
  have v93 : IVec S384x1 1 := ori v90 v92
  have v94 : IVec S384x1 32 := broadcast S384x1 126#32
  have v95 : IVec S384x1 32 := subi E v94
  have v96 : IVec S384x1 32 := broadcast S384x1 0#32
  have v97 : IVec S384x1 32 := select v93 v96 v95
  have cst_30 : Ideal .f32 := Scalar.ofBits .f32 0x00000000#32
  have v98 : FVec Ideal S384x1 .f32 := broadcast S384x1 cst_30
  have v99 : IVec S384x1 1 := cmpf .oeq a v98
  have v100 : IVec S384x1 32 := broadcast S384x1 0#32
  have v101 : IVec S384x1 32 := select v99 v100 v97
  v101

theorem expoVec_apply (a : FVec Ideal S384x1 .f32) (E : IVec S384x1 32) (j : S384x1.Idx) : expoVec a E j = expo (a j) (E j) := by
  rw [← expo_vec]
  rfl

theorem kpay8_eq (a v : FVec Ideal S384x1 .f32) (e : IVec S384x1 32) : k0_pay8 a v e = expoVec a (last3 v e) := by
  unfold k0_pay8 expoVec last3
  rfl

theorem k8 (x : Vec Ideal S384x6912 .bf16) (j : S384x1.Idx) :
    k0_pay8 (k0_pay5 x) (k0_pay6 x) (k0_pay7 x) j = expo (rowMax x (j 0)) (search8 (ratio x (j 0)) (search5 (ratio x (j 0)))) := by
  rw [kpay8_eq, expoVec_apply, last3_apply, k5, k6, k7]

/-- The kernel's scale of row `r` is the reference's. -/
theorem scaleOf_apply (x : Vec Ideal S384x6912 .bf16) (j : S384x1.Idx) :
    scaleOf x j = scaleR (rowMax x (j 0)) (ratio x (j 0)) := by
  rw [← (row_eq (rowMax x (j 0)) (ratio x (j 0)) (ratio_nonneg x _) (fun h => by unfold ratio; rw [h, zero_mul])).1, ← k8]
  rfl

theorem codesOf_apply (x : Vec Ideal S384x6912 .bf16) (j : S384x6912.Idx) : codesOf x j = code (x j) (invR x (j 0)) := by
  have hi : powWord (0#32 - k0_pay8 (k0_pay5 x) (k0_pay6 x) (k0_pay7 x) (ix2 (j 0) 0)) = invR x (j 0) := by
    rw [k8]
    exact (row_eq (rowMax x (j 0)) (ratio x (j 0)) (ratio_nonneg x _) (fun h => by unfold ratio; rw [h, zero_mul])).2
  unfold code
  rw [← hi]
  unfold codesOf
  rw [k4]
  unfold k0_pay1
  pointwise
  rfl

end Cert.Quant

end
-- ==== Proof.RefValue.lean ====
/-
  The reference's run: each of its three results as one term of its operands as the region finds them.
-/
module

public import proofs.«01_k».proof.Proof.Gen.ReferenceIdeal.Frame
public import Idealize.ShloMosaic.Lib.Pipeline.ValueKit

@[expose] public section

set_option maxRecDepth 16384

noncomputable section

namespace Cert.ReferenceIdeal.Value

open Idealize.ShloMosaic Idealize.ShloMosaic.TcCoe Idealize.ShloMosaic.Tactic
open Idealize.SL Idealize.SL.Sem
open Idealize.ShloMosaic.Pipeline (Dat Cfg Window)
open Cert.ReferenceIdeal Cert.ReferenceIdeal.Gen

variable {F : FTy → Type} [FloatOps F]
variable (m : (ℓ : Loc nD τ sig) → Buf (Elt F) ℓ) (ρ : Dev nD → PrngReg)

/-- The reference's scales of the activations `x`, from the table `p` of powers of two. -/
def scale (x : Vec F S384x6912 .bf16) (p : Vec F S1x253 .f32) : Vec F S384x1 .f32 := k0_pay5 x p p
/-- Its codes. -/
def codes (x : Vec F S384x6912 .bf16) (p : Vec F S1x253 .f32) : Vec F S384x6912 .fp8e4m3 :=
  k0_pay1 (Scalar.ofBits .f32 0x43E00000#32) (k0_pay6 x p p)
/-- Its result. -/
def y (x : Vec F S384x6912 .bf16) (w : Vec F S6912x5120 .fp8e4m3) (ws : Vec F S1x5120 .f32) (a : Vec F S6912x16 .bf16)
    (b : Vec F S16x5120 .bf16) (p : Vec F S1x253 .f32) : Vec F S384x5120 .bf16 :=
  k0_pay2 (k0_pay3 x) (k0_pay5 x p p) (Scalar.ofBits .f32 0x43E00000#32) (k0_pay6 x p p) w ws a b

theorem out0_6_eq (x0 : Vec F S384x6912 .bf16) (x1 : Vec F S6912x5120 .fp8e4m3) (x2 : Vec F S1x5120 .f32) (x3 : Vec F S6912x16 .bf16)
    (x4 : Vec F S16x5120 .bf16) (x5 : Vec F S1x253 .f32) : out0_6 x0 x1 x2 x3 x4 x5 = y x0 x1 x2 x3 x4 x5 := by
  unfold_out out0_6
  simp (disch := decide) only [View.ld_unit_lit', View.canon_cons_unit_lit']
  rfl
theorem out0_7_eq (x0 : Vec F S384x6912 .bf16) (x1 : Vec F S6912x5120 .fp8e4m3) (x2 : Vec F S1x5120 .f32) (x3 : Vec F S6912x16 .bf16)
    (x4 : Vec F S16x5120 .bf16) (x5 : Vec F S1x253 .f32) : out0_7 x0 x1 x2 x3 x4 x5 = codes x0 x5 := by
  unfold_out out0_7
  simp (disch := decide) only [View.ld_unit_lit', View.canon_cons_unit_lit']
  rfl

theorem out0_8_eq (x0 : Vec F S384x6912 .bf16) (x1 : Vec F S6912x5120 .fp8e4m3) (x2 : Vec F S1x5120 .f32) (x3 : Vec F S6912x16 .bf16)
    (x4 : Vec F S16x5120 .bf16) (x5 : Vec F S1x253 .f32) : out0_8 x0 x1 x2 x3 x4 x5 = scale x0 x5 := by
  unfold_out out0_8
  simp (disch := decide) only [View.ld_unit_lit', View.canon_cons_unit_lit']
  rfl

theorem idx_0 : ∀ t : Fin cfg0.N, win0_0.index t = ![0, 0] :=
  (by decide +kernel : ∀ t : Fin grid0.N, win0_0.index t = ![0, 0])
theorem idx_1 : ∀ t : Fin cfg0.N, win0_1.index t = ![0, 0] :=
  (by decide +kernel : ∀ t : Fin grid0.N, win0_1.index t = ![0, 0])
theorem idx_2 : ∀ t : Fin cfg0.N, win0_2.index t = ![0, 0] :=
  (by decide +kernel : ∀ t : Fin grid0.N, win0_2.index t = ![0, 0])
theorem idx_3 : ∀ t : Fin cfg0.N, win0_3.index t = ![0, 0] :=
  (by decide +kernel : ∀ t : Fin grid0.N, win0_3.index t = ![0, 0])
theorem idx_4 : ∀ t : Fin cfg0.N, win0_4.index t = ![0, 0] :=
  (by decide +kernel : ∀ t : Fin grid0.N, win0_4.index t = ![0, 0])
theorem idx_5 : ∀ t : Fin cfg0.N, win0_5.index t = ![0, 0] :=
  (by decide +kernel : ∀ t : Fin grid0.N, win0_5.index t = ![0, 0])
theorem idx_6 : ∀ t : Fin cfg0.N, win0_6.index t = ![0, 0] :=
  (by decide +kernel : ∀ t : Fin grid0.N, win0_6.index t = ![0, 0])
theorem idx_7 : ∀ t : Fin cfg0.N, win0_7.index t = ![0, 0] :=
  (by decide +kernel : ∀ t : Fin grid0.N, win0_7.index t = ![0, 0])
theorem idx_8 : ∀ t : Fin cfg0.N, win0_8.index t = ![0, 0] :=
  (by decide +kernel : ∀ t : Fin grid0.N, win0_8.index t = ![0, 0])

/-! Every operand's block is its whole array. -/

theorem iblk_0 (c : Dev nD) (t : Fin cfg0.N) : iblk m c 0 t = V m c main_v0 := by
  unfold iblk
  funext j
  blk_ext [idx_0 t]

theorem iblk_1 (c : Dev nD) (t : Fin cfg0.N) : iblk m c 1 t = V m c main_arg1 := by
  unfold iblk
  funext j
  blk_ext [idx_1 t]

theorem iblk_2 (c : Dev nD) (t : Fin cfg0.N) : iblk m c 2 t = V m c main_v1 := by
  unfold iblk
  funext j
  blk_ext [idx_2 t]

theorem iblk_3 (c : Dev nD) (t : Fin cfg0.N) : iblk m c 3 t = V m c main_arg3 := by
  unfold iblk
  funext j
  blk_ext [idx_3 t]

theorem iblk_4 (c : Dev nD) (t : Fin cfg0.N) : iblk m c 4 t = V m c main_arg4 := by
  unfold iblk
  funext j
  blk_ext [idx_4 t]

theorem iblk_5 (c : Dev nD) (t : Fin cfg0.N) : iblk m c 5 t = V m c main_cst := by
  unfold iblk
  funext j
  blk_ext [idx_5 t]

theorem arr_6 (c : Dev nD) : (dats m 0 c).arrAt 6 cfg0.N = y (V m c main_v0) (V m c main_arg1) (V m c main_v1) (V m c main_arg3) (V m c main_arg4) (V m c main_cst) := by
  refine (dats m 0 c).arrAt_eq_of_covers 6 _ (by decide +kernel) fun t hf y => ?_
  blk_simp
  rw [after0_6, out0_6_eq, iblk_0, iblk_1, iblk_2, iblk_3, iblk_4, iblk_5]
  congr 1
  blk_ext [idx_6 t]

theorem arr_7 (c : Dev nD) : (dats m 0 c).arrAt 7 cfg0.N = codes (V m c main_v0) (V m c main_cst) := by
  refine (dats m 0 c).arrAt_eq_of_covers 7 _ (by decide +kernel) fun t hf y => ?_
  blk_simp
  rw [after0_7, out0_7_eq, iblk_0, iblk_5]
  congr 1
  blk_ext [idx_7 t]

theorem arr_8 (c : Dev nD) : (dats m 0 c).arrAt 8 cfg0.N = scale (V m c main_v0) (V m c main_cst) := by
  refine (dats m 0 c).arrAt_eq_of_covers 8 _ (by decide +kernel) fun t hf y => ?_
  blk_simp
  rw [after0_8, out0_8_eq, iblk_0, iblk_5]
  congr 1
  blk_ext [idx_8 t]

end Cert.ReferenceIdeal.Value

end
-- ==== Proof.RefQuant.lean ====
/-
  The reference's quantiser read at an element: its scales and its codes from each row's largest magnitude.
-/
module

public import proofs.«01_k».proof.Proof.Row
public import proofs.«01_k».proof.Proof.RefValue

@[expose] public section

set_option maxRecDepth 16384

noncomputable section

namespace Cert.Quant

open Idealize.ShloMosaic Idealize.ShloMosaic.TcCoe Idealize.ShloMosaic.Tactic
open Idealize.SL Idealize.SL.Sem
open Cert.ReferenceIdeal Cert.ReferenceIdeal.Gen

/-- The largest magnitudes of the rows. -/
def rAmax (x : FVec Ideal S384x6912 .f32) : FVec Ideal S384x1 .f32 :=
  shapeCast S384x1 (multiReduction .maximumf [1] S384 (absf x) 0xFF800000#32 reduces_S384x6912_S384 (.inl rfl) rfl) shapeCasts_S384_S384x1

/-- The ratios. -/
def rRatio (a : FVec Ideal S384x1 .f32) : FVec Ideal S384x1 .f32 := mulf a (broadcast S384x1 (Scalar.ofBits .f32 0x3B124925#32))

/-- Per row, the table's least entry above the ratio. -/
def rLeast (p : FVec Ideal S1x253 .f32) (v : FVec Ideal S384x1 .f32) : FVec Ideal S384x1 .f32 :=
  shapeCast S384x1 (multiReduction .minimumf [1] S384
    (select (cmpf .ogt (broadcastTo S384x253 p broadcasts_S1x253_S384x253) (broadcastTo S384x253 v broadcasts_S384x1_S384x253))
      (broadcastTo S384x253 (shapeCast S1x253 p shapeCasts_S1x253_S1x253) broadcasts_S1x253_S384x253)
      (broadcast S384x253 (Scalar.ofBits .f32 0x7F800000#32)))
    0x7F800000#32 reduces_S384x253_S384 (.inl rfl) rfl) shapeCasts_S384_S384x1

/-- The choice of the scale. -/
def rScale (a v l : FVec Ideal S384x1 .f32) : FVec Ideal S384x1 .f32 :=
  select (cmpf .oeq a (broadcast S384x1 (Scalar.ofBits .f32 0x00000000#32))) (broadcast S384x1 (Scalar.ofBits .f32 0x3F800000#32))
    (select (andi (cmpf .oge v (broadcast S384x1 (Scalar.ofBits .f32 0x00800000#32))) (cmpf .olt v (broadcast S384x1 (Scalar.ofBits .f32 0x7F800000#32))))
      l (broadcast S384x1 (Scalar.ofBits .f32 0x3F800000#32)))

/-- The clamp from below of the scaled activations. -/
def rLow (x : FVec Ideal S384x6912 .f32) (s : FVec Ideal S384x1 .f32) : FVec Ideal S384x6912 .f32 :=
  maximumf (broadcast S384x6912 (Scalar.ofBits .f32 0xC3E00000#32))
    (mulf x (broadcastTo S384x6912
      (select (cmpf .ogt s (broadcast S384x1 (Scalar.ofBits .f32 0x7E800000#32))) (broadcast S384x1 (Scalar.ofBits .f32 0x00000000#32))
        (divf (broadcast S384x1 (Scalar.ofBits .f32 0x3F800000#32)) s)) broadcasts_S384x1_S384x6912))

theorem pay5_eq (x : Vec Ideal S384x6912 .bf16) (p : Vec Ideal S1x253 .f32) :
    k0_pay5 x p p = rScale (rAmax (k0_pay4 x)) (rRatio (rAmax (k0_pay4 x))) (rLeast p (rRatio (rAmax (k0_pay4 x)))) := by
  unfold k0_pay5 rScale rRatio rLeast rAmax
  rfl

theorem pay6_eq (x : Vec Ideal S384x6912 .bf16) (p : Vec Ideal S1x253 .f32) :
    k0_pay6 x p p = rLow (k0_pay4 x) (k0_pay5 x p p) := by
  unfold k0_pay6 rLow
  rfl

theorem r3 (x : Vec Ideal S384x6912 .bf16) : k0_pay3 x = x := by
  unfold k0_pay3
  funext j
  pointwise

theorem r4 (x : Vec Ideal S384x6912 .bf16) : k0_pay4 x = (x : S384x6912.Idx → EReal) := by
  unfold k0_pay4
  rw [r3]
  rfl

theorem neg_inf_f32 : Ideal.ofBits .f32 0xFF800000#32 = ⊥ := by simp [Ideal.ofBits, Ideal.ieee]

theorem rAmax_apply (x : FVec Ideal S384x6912 .f32) (j : S384x1.Idx) : rAmax x j = rowMax x (j 0) := by
  unfold rAmax
  pointwise
  rw [neg_inf_f32]
  rfl

theorem rRatio_apply (a : FVec Ideal S384x1 .f32) (j : S384x1.Idx) : rRatio a j = a j * cInv := rfl

theorem ix_eta (j : S384x1.Idx) : (ix2 (j 0) 0 : S384x1.Idx) = j := by
  funext d
  fin_cases d
  · rfl
  · exact (Fin.fin_one_eq_zero _).symm

theorem sel_decide (P : Prop) [Decidable P] (a b : EReal) : Scalar.select (BitVec.ofBool (decide P)) a b = if P then a else b := by
  unfold Scalar.select
  by_cases h : P
  · rw [if_pos h, decide_eq_true h]; rfl
  · rw [if_neg h, decide_eq_false h]; rfl

theorem pos_inf_f32 : Ideal.ofBits .f32 0x7F800000#32 = ⊤ := pw_top

theorem rLeast_apply (p : FVec Ideal S1x253 .f32) (hp : ∀ k : Fin 253, p (ix2 0 k) = pw (k.val + 2)) (v : FVec Ideal S384x1 .f32) (j : S384x1.Idx) :
    rLeast p v j = least (v j) := by
  unfold rLeast
  pointwise
  rw [pos_inf_f32]
  unfold least
  refine congrArg (fun f => Finset.fold min ⊤ f Finset.univ) (funext fun k => ?_)
  rw [hp, show v (ix2 (j 0) 0) = v j from congrArg v (ix_eta j)]

theorem rScale_apply (a v l : FVec Ideal S384x1 .f32) (j : S384x1.Idx) :
    rScale a v l j = if a j = 0 then 1 else if pw 1 ≤ v j ∧ v j < ⊤ then l j else 1 := by
  refine (show _ = Scalar.select (BitVec.ofBool (decide (a j = Ideal.ofBits .f32 0x00000000#32))) (Ideal.ofBits .f32 0x3F800000#32)
      (Scalar.select (BitVec.ofBool (decide (pw 1 ≤ v j)) &&& BitVec.ofBool (decide (v j < pw 255))) (l j) (Ideal.ofBits .f32 0x3F800000#32)) from rfl).trans ?_
  rw [sel_decide, Ideal.ofBits_one_f32, Ideal.ofBits_zero_f32, pw_top]
  by_cases h1 : pw 1 ≤ v j <;> by_cases h2 : v j < ⊤ <;> simp only [h1, h2, decide_true, decide_false, and_self, and_true, and_false, if_true, if_false] <;> rfl

theorem scale_apply (x : Vec Ideal S384x6912 .bf16) (p : Vec Ideal S1x253 .f32) (hp : ∀ k : Fin 253, p (ix2 0 k) = pw (k.val + 2)) (j : S384x1.Idx) :
    Value.scale x p j = scaleR (rowMax x (j 0)) (ratio x (j 0)) := by
  unfold Value.scale
  rw [pay5_eq, rScale_apply, rLeast_apply p hp, rRatio_apply, rAmax_apply, r4]
  rfl

theorem rLow_apply (x : FVec Ideal S384x6912 .f32) (s : FVec Ideal S384x1 .f32) (j : S384x6912.Idx) :
    rLow x s j = max (Ideal.ofBits .f32 0xC3E00000#32) (x j * if pw 253 < s (ix2 (j 0) 0) then 0 else Ideal.div 1 (s (ix2 (j 0) 0))) := by
  rw [← sel_decide, ← Ideal.ofBits_one_f32, ← Ideal.ofBits_zero_f32]
  unfold rLow
  pointwise
  rfl

theorem codes_apply (x : Vec Ideal S384x6912 .bf16) (p : Vec Ideal S1x253 .f32) (hp : ∀ k : Fin 253, p (ix2 0 k) = pw (k.val + 2)) (j : S384x6912.Idx) :
    Value.codes x p j = code (x j) (invR x (j 0)) := by
  unfold Value.codes k0_pay1
  rw [pay6_eq]
  refine (show _ = min (Ideal.ofBits .f32 0x43E00000#32) (rLow (k0_pay4 x) (k0_pay5 x p p) j) from rfl).trans ?_
  rw [rLow_apply, show k0_pay5 x p p = Value.scale x p from rfl, scale_apply x p hp, r4]
  rfl

end Cert.Quant

end
-- ==== Proof.ResultEq.lean ====
/-
  The kernel's three results and the reference's, equal term by term.
-/
module

public import proofs.«01_k».proof.Proof.KernelQuant
public import proofs.«01_k».proof.Proof.RefQuant

@[expose] public section

set_option maxRecDepth 16384

noncomputable section

namespace Cert.Quant

open Idealize.ShloMosaic Idealize.ShloMosaic.TcCoe Idealize.ShloMosaic.Tactic
open Idealize.SL Idealize.SL.Sem

/-- One element of the result from a row of codes, a column of weights, the row's and the column's scales, a row of the low-rank product and a
    column of the second low-rank factor. -/
def out1 (c w : Fin 6912 → EReal) (s t : EReal) (l b : Fin 16 → EReal) : EReal :=
  (∑ k, c k * w k) * s * t + Ideal.ofBits .f32 0x40000000#32 * ∑ k, l k * b k

/-- One element of the low-rank product. -/
def low1 (x : (⟨2, ![384, 6912]⟩ : Shape).Idx → EReal) (a : (⟨2, ![6912, 16]⟩ : Shape).Idx → EReal) (r : Fin 384) (n : Fin 16) : EReal :=
  ∑ k : Fin 6912, x (ix2 r k) * a (ix2 k n)

section Kernel
open Cert.KernelIdeal Cert.KernelIdeal.Gen Cert.KernelIdeal.Body

theorem klow_apply (x : Vec Ideal S384x6912 .bf16) (a : Vec Ideal S6912x16 .bf16) (j : S384x16.Idx) : lowOf x a j = low1 x a (j 0) (j 1) := by
  unfold lowOf k0_pay2 low1
  rw [k4]
  pointwise
  try rfl

theorem ktile_apply (c : Vec Ideal S384x6912 .fp8e4m3) (w : Vec Ideal S6912x512 .fp8e4m3) (l : Vec Ideal S384x16 .bf16) (b : Vec Ideal S16x512 .bf16)
    (s : Vec Ideal S384x1 .f32) (t : Vec Ideal S1x512 .f32) (j : S384x512.Idx) :
    k0_pay3 c w l b s t j = out1 (fun k => c (ix2 (j 0) k)) (fun k => w (ix2 k (j 1))) (s (ix2 (j 0) 0)) (t (ix2 0 (j 1)))
      (fun k => l (ix2 (j 0) k)) (fun k => b (ix2 k (j 1))) := by
  unfold k0_pay3 out1
  pointwise
  try rfl

end Kernel

section Reference
open Cert.ReferenceIdeal Cert.ReferenceIdeal.Gen

/-- The reference's low-rank product. -/
def rlow (x : FVec Ideal S384x6912 .bf16) (a : FVec Ideal S6912x16 .bf16) : FVec Ideal S384x16 .bf16 :=
  truncf .bf16 (matmul dot_S384x6912_S6912x16_S384x16_1_0_0_1_n_n none x a (constant S384x16 .f32 0x00000000#32)) bitsLt_bf16_f32

/-- The reference's result from its codes, its scales and its low-rank product. -/
def rout (c : FVec Ideal S384x6912 .fp8e4m3) (w : FVec Ideal S6912x5120 .fp8e4m3) (s : FVec Ideal S384x1 .f32) (t : FVec Ideal S1x5120 .f32)
    (l : FVec Ideal S384x16 .bf16) (b : FVec Ideal S16x5120 .bf16) : FVec Ideal S384x5120 .bf16 :=
  truncf .bf16 (addf
    (mulf (mulf (matmul dot_S384x6912_S6912x5120_S384x5120_1_0_0_1_n_n none c w (constant S384x5120 .f32 0x00000000#32))
      (broadcastTo S384x5120 s broadcasts_S384x1_S384x5120)) (broadcastTo S384x5120 (shapeCast S1x5120 t shapeCasts_S1x5120_S1x5120) broadcasts_S1x5120_S384x5120))
    (mulf (broadcast S384x5120 (Scalar.ofBits .f32 0x40000000#32))
      (matmul dot_S384x16_S16x5120_S384x5120_1_0_0_1_n_n none l b (constant S384x5120 .f32 0x00000000#32)))) bitsLt_bf16_f32

theorem y_eq (x : Vec Ideal S384x6912 .bf16) (w : Vec Ideal S6912x5120 .fp8e4m3) (t : Vec Ideal S1x5120 .f32) (a : Vec Ideal S6912x16 .bf16)
    (b : Vec Ideal S16x5120 .bf16) (p : Vec Ideal S1x253 .f32) :
    Value.y x w t a b p = rout (Value.codes x p) w (Value.scale x p) t (rlow (k0_pay3 x) a) b := by
  unfold Value.y Value.codes Value.scale k0_pay2 rout rlow
  rfl

theorem rlow_apply (x : FVec Ideal S384x6912 .bf16) (a : FVec Ideal S6912x16 .bf16) (j : S384x16.Idx) : rlow x a j = low1 x a (j 0) (j 1) := by
  unfold rlow low1
  pointwise
  try rfl

theorem rout_apply (c : FVec Ideal S384x6912 .fp8e4m3) (w : FVec Ideal S6912x5120 .fp8e4m3) (s : FVec Ideal S384x1 .f32) (t : FVec Ideal S1x5120 .f32)
    (l : FVec Ideal S384x16 .bf16) (b : FVec Ideal S16x5120 .bf16) (j : S384x5120.Idx) :
    rout c w s t l b j = out1 (fun k => c (ix2 (j 0) k)) (fun k => w (ix2 k (j 1))) (s (ix2 (j 0) 0)) (t (ix2 0 (j 1)))
      (fun k => l (ix2 (j 0) k)) (fun k => b (ix2 k (j 1))) := by
  unfold rout out1
  pointwise
  try rfl

/-- Entry `(0, k)` of the table is the power of two whose exponent field is `k + 2`. -/
theorem table (k : Fin 253) : (fun i => FloatOps.ofBits (F := Ideal) .f32 (lit0 (S1x253.rowMajor i))) (ix2 0 k) = pw (k.val + 2) := by
  have h : ∀ k : Fin 253, lit0 (S1x253.rowMajor (ix2 0 k)) = BitVec.ofNat 32 ((k.val + 2) * 2 ^ 23) := by decide +kernel
  exact congrArg (Ideal.ofBits .f32) (h k)

end Reference

variable (x : (⟨2, ![384, 6912]⟩ : Shape).Idx → EReal) (p : (⟨2, ![1, 253]⟩ : Shape).Idx → EReal)

/-- The kernel's scales are the reference's. -/
theorem scale_eq (hp : ∀ k : Fin 253, p (ix2 0 k) = pw (k.val + 2)) : Cert.KernelIdeal.Body.scaleOf (F := Ideal) x = Cert.ReferenceIdeal.Value.scale (F := Ideal) x p :=
  funext fun j => (scaleOf_apply x j).trans (scale_apply x p hp j).symm

/-- The kernel's codes are the reference's. -/
theorem codes_eq (hp : ∀ k : Fin 253, p (ix2 0 k) = pw (k.val + 2)) : Cert.KernelIdeal.Body.codesOf (F := Ideal) x = Cert.ReferenceIdeal.Value.codes (F := Ideal) x p :=
  funext fun j => (codesOf_apply x j).trans (codes_apply x p hp j).symm

/-- A tile of the kernel's result is the reference's result at the tile's columns. -/
theorem tile_eq (hp : ∀ k : Fin 253, p (ix2 0 k) = pw (k.val + 2))
    (w : (⟨2, ![6912, 5120]⟩ : Shape).Idx → EReal) (ws : (⟨2, ![1, 5120]⟩ : Shape).Idx → EReal)
    (a : (⟨2, ![6912, 16]⟩ : Shape).Idx → EReal) (b : (⟨2, ![16, 5120]⟩ : Shape).Idx → EReal)
    (col : Fin 512 → Fin 5120)
    (w' : (⟨2, ![6912, 512]⟩ : Shape).Idx → EReal) (hw : ∀ j, w' j = w (ix2 (j 0) (col (j 1))))
    (ws' : (⟨2, ![1, 512]⟩ : Shape).Idx → EReal) (hs : ∀ j, ws' j = ws (ix2 (j 0) (col (j 1))))
    (b' : (⟨2, ![16, 512]⟩ : Shape).Idx → EReal) (hb : ∀ j, b' j = b (ix2 (j 0) (col (j 1))))
    (j : (⟨2, ![384, 512]⟩ : Shape).Idx) :
    Cert.KernelIdeal.Gen.k0_pay3 (F := Ideal) (Cert.KernelIdeal.Body.codesOf (F := Ideal) x) w' (Cert.KernelIdeal.Body.lowOf (F := Ideal) x a) b'
        (Cert.KernelIdeal.Body.scaleOf (F := Ideal) x) ws' j
      = Cert.ReferenceIdeal.Value.y (F := Ideal) x w ws a b p (ix2 (j 0) (col (j 1))) := by
  rw [y_eq, r3]
  refine (ktile_apply _ _ _ _ _ _ j).trans (Eq.trans ?_ (rout_apply _ _ _ _ _ _ _).symm)
  rw [scale_eq x p hp, codes_eq x p hp]
  have el : (fun k : Fin 16 => Cert.KernelIdeal.Body.lowOf (F := Ideal) x a (ix2 (j 0) k)) = fun k => rlow x a (ix2 (j 0) k) :=
    funext fun k => (klow_apply x a _).trans (rlow_apply x a _).symm
  have ew : (fun k : Fin 6912 => w' (ix2 k (j 1))) = fun k => w (ix2 k (col (j 1))) := funext fun k => hw _
  have eb : (fun k : Fin 16 => b' (ix2 k (j 1))) = fun k => b (ix2 k (col (j 1))) := funext fun k => hb _
  have es : ws' (ix2 0 (j 1)) = ws (ix2 0 (col (j 1))) := hs _
  rw [el, ew, eb, es]
  rfl

end Cert.Quant

end
-- ==== Proof.KernelFrame.lean ====
/-
  The run of the idealized kernel: what each window holds after each point (the codes, the scales and the low-rank product are
  those of the first point throughout), the body obligation, the launch and the frame.
-/
module

public import proofs.«01_k».proof.Proof.Gen.KernelIdeal.Frame
public import proofs.«01_k».proof.Proof.KernelBody
public import Idealize.ShloMosaic.Lib.Pipeline.TableIdle
public import Idealize.ShloMosaic.Lib.VecWindow
public import Idealize.ShloMosaic.Lib.Pipeline.ValueKit
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
def t0 : Fin cfg0.N := ⟨0, by rw [show cfg0.N = 10 from N_0]; omega⟩

/-- The body's condition holds at the first point only. -/
theorem cond_iff : ∀ t : Fin cfg0.N, k0_cond1 (grid0.coords t) = 1#1 ↔ t.val = 0 :=
  (by decide +kernel : ∀ t : Fin grid0.N, k0_cond1 (grid0.coords t) = 1#1 ↔ t.val = 0)

/-- The activations as the first point finds them. -/
abbrev xAt (c : Dev nD) : Vec F S384x6912 .bf16 := iblk m c 0 t0
/-- The codes the first point stores. -/
def codesAt (c : Dev nD) : Vec F S384x6912 .fp8e4m3 := codesOf (xAt m c)
/-- The scales the first point stores. -/
def scaleAt (c : Dev nD) : Vec F S384x1 .f32 := scaleOf (xAt m c)
/-- The low-rank product the first point stores in the scratch. -/
def lowAt (c : Dev nD) : Vec F S384x16 .bf16 := lowOf (xAt m c) (iblk m c 3 t0)
/-- The column tile of the result that point `t` stores. -/
def tileAt (c : Dev nD) (t : Fin cfg0.N) : Vec F S384x512 .bf16 :=
  k0_pay3 (codesAt m c) (iblk m c 1 t) (lowAt m c) (iblk m c 4 t) (scaleAt m c) (iblk m c 2 t)

/-- Each window's current staging memref at point `t`, spelled as the pipeline passes it. -/
abbrev ms0 (t : Fin cfg0.N) : Memref sig .tc .vmem S384x6912 .bf16 := win0_0.stage (cfg0.slots t 0)
abbrev ms1 (t : Fin cfg0.N) : Memref sig .tc .vmem S6912x512 .fp8e4m3 := win0_1.stage (cfg0.slots t 1)
abbrev ms2 (t : Fin cfg0.N) : Memref sig .tc .vmem S1x512 .f32 := win0_2.stage (cfg0.slots t 2)
abbrev ms3 (t : Fin cfg0.N) : Memref sig .tc .vmem S6912x16 .bf16 := win0_3.stage (cfg0.slots t 3)
abbrev ms4 (t : Fin cfg0.N) : Memref sig .tc .vmem S16x512 .bf16 := win0_4.stage (cfg0.slots t 4)
abbrev ms5 (t : Fin cfg0.N) : Memref sig .tc .vmem S384x512 .bf16 := win0_5.stage (cfg0.slots t 5)
abbrev ms6 (t : Fin cfg0.N) : Memref sig .tc .vmem S384x6912 .fp8e4m3 := win0_6.stage (cfg0.slots t 6)
abbrev ms7 (t : Fin cfg0.N) : Memref sig .tc .vmem S384x1 .f32 := win0_7.stage (cfg0.slots t 7)
/-- The scratch operand: a whole scoped buffer of the kernel's own. -/
abbrev scM : Memref sig .tc .vmem S384x16 .bf16 := Memref.whole cc0_scratch0

/-- The class's invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The invariant before position `n`: at the start the scratch at anything; afterwards at the low-rank product. -/
def PhiS (c : Dev nD) : ℕ → sProp 𝕄
  | 0 => Pipeline.ΦA spec0 c
  | _ + 1 => iprop(owns (c : Thread nD τ) scM fullShare (lowAt m c) ∗ (∃ r, prngReg c r))

theorem PhiS_pos (c : Dev nD) (n : ℕ) (h : n ≠ 0) :
    PhiS m c n = iprop(owns (c : Thread nD τ) scM fullShare (lowAt m c) ∗ (∃ r, prngReg c r)) := by
  cases n with
  | zero => exact absurd rfl h
  | succ n => rfl

/-- The proof data of the pipeline on core `c`: each input's buffer keeps its block; the result's holds the point's tile; the codes'
    and the scales' hold what the first point stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => tileAt m c t
    | ⟨6, _⟩ => codesAt m c
    | ⟨7, _⟩ => scaleAt m c
  Φ t := PhiS m c t.val
  q _ := fullShare
  owed _ := 0

theorem A_eq (c : Dev nD) (w : Fin cfg0.W) : (dats m 0 c).A w = V m c (Pipeline.arrRef spec0 w) := by
  dsimp only [dats]

theorem Phi_eq (c : Dev nD) (t : Fin (cfg0.N + 1)) : (dats m 0 c).Φ t = PhiS m c t.val := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = tileAt m c t := by dsimp only [dats]
theorem after_6 (c : Dev nD) (t : Fin cfg0.N) : (dats m 0 c).after 6 t = codesAt m c := by dsimp only [dats]
theorem after_7 (c : Dev nD) (t : Fin cfg0.N) : (dats m 0 c).after 7 t = scaleAt m c := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
/-- Output 6 is stored at the first point only. -/
theorem idle_6 : ∀ t : Fin cfg0.N, cfg0.idle 6 (grid0.coords t) = decide (t.val ≠ 0) :=
  (by decide +kernel : ∀ t : Fin grid0.N, cfg0.idle 6 (grid0.coords t) = decide (t.val ≠ 0))

theorem fresh_6 (t : Fin cfg0.N) (hz : t.val ≠ 0) : cfg0.fresh 6 t.val = false :=
  (by decide +kernel : ∀ t : Fin grid0.N, t.val ≠ 0 → cfg0.fresh 6 t.val = false) t hz

/-- After the first point the buffer of output 6 holds what that point left: it is not written back in between. -/
theorem before_6 (c : Dev nD) (t : Fin cfg0.N) (hz : t.val ≠ 0) (d) : (dats m 0 c).before 6 t d = codesAt m c := by
  rw [Dat.before_out_traj _ 6 rfl (fun _ _ => rfl) (fun _ _ _ _ => by rw [after_6, after_6]) t.val t rfl d, fresh_6 t hz,
    if_neg Bool.false_ne_true, after_6]

theorem leaves_6 (c : Dev nD) (t : Fin cfg0.N) :
    owns (c : Thread nD τ) (ms6 t) fullShare (codesAt m c) ⊢ (dats m 0 c).leavesExact 6 t := by
  unfold Dat.leavesExact
  rw [idle_6, after_6]
  by_cases hz : t.val = 0
  · rw [decide_eq_false (by simpa using hz)]
  · rw [decide_eq_true hz]
    cases (cfg0.win 6).flush t
    · dsimp only
      iintro H
      iexists (codesAt m c)
      rw [before_6 m c t hz]
      iexact H
    · exact .rfl
/-- Output 7 is stored at the first point only. -/
theorem idle_7 : ∀ t : Fin cfg0.N, cfg0.idle 7 (grid0.coords t) = decide (t.val ≠ 0) :=
  (by decide +kernel : ∀ t : Fin grid0.N, cfg0.idle 7 (grid0.coords t) = decide (t.val ≠ 0))

theorem fresh_7 (t : Fin cfg0.N) (hz : t.val ≠ 0) : cfg0.fresh 7 t.val = false :=
  (by decide +kernel : ∀ t : Fin grid0.N, t.val ≠ 0 → cfg0.fresh 7 t.val = false) t hz

/-- After the first point the buffer of output 7 holds what that point left: it is not written back in between. -/
theorem before_7 (c : Dev nD) (t : Fin cfg0.N) (hz : t.val ≠ 0) (d) : (dats m 0 c).before 7 t d = scaleAt m c := by
  rw [Dat.before_out_traj _ 7 rfl (fun _ _ => rfl) (fun _ _ _ _ => by rw [after_7, after_7]) t.val t rfl d, fresh_7 t hz,
    if_neg Bool.false_ne_true, after_7]

theorem leaves_7 (c : Dev nD) (t : Fin cfg0.N) :
    owns (c : Thread nD τ) (ms7 t) fullShare (scaleAt m c) ⊢ (dats m 0 c).leavesExact 7 t := by
  unfold Dat.leavesExact
  rw [idle_7, after_7]
  by_cases hz : t.val = 0
  · rw [decide_eq_false (by simpa using hz)]
  · rw [decide_eq_true hz]
    cases (cfg0.win 7).flush t
    · dsimp only
      iintro H
      iexists (scaleAt m c)
      rw [before_7 m c t hz]
      iexact H
    · exact .rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ (dats m 0 c).leavesExact 6 t
    ∗ (dats m 0 c).leavesExact 7 t)

set_option maxHeartbeats 6400000 in
/-- The body at any point: the first by `runA`, a later one by `runB`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl,
    after_0, after_1, after_2, after_3, after_4, after_5, Phi_eq, Phi_eq,
    PhiS_pos m c t.succ.val (by rw [Fin.val_succ]; omega), Fin.val_castSucc]
  by_cases hz : t.val = 0
  · obtain rfl : t = t0 := Fin.ext hz
    rw [show PhiS m c (t0 : Fin cfg0.N).val = Pipeline.ΦA spec0 c from rfl, PhiA_eq]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runA c (grid0.coords t0) _ _ _ _ _ _ _ _ _ _ _ _ _ _ _ _ _ _ ((cond_iff t0).mpr rfl) (iblk m c 0 t0) (iblk m c 1 t0) (iblk m c 2 t0) (iblk m c 3 t0) (iblk m c 4 t0) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS]; · iexact HS
    iintro ⟨H0, H1, H2, H3, H4, H5, H6, H7, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iapply (leaves_6 m c t0)
      iexact H6
    iapply (leaves_7 m c t0)
    iexact H7
  · rw [PhiS_pos m c t.val hz]
    simp only [before_6 m c t hz, before_7 m c t hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runB c (grid0.coords t) _ _ _ _ _ _ _ _ _ _ _ _ _ _ _ _ _ _ (fun h => hz ((cond_iff t).mp h)) (iblk m c 0 t) (iblk m c 1 t) (iblk m c 2 t) (iblk m c 3 t) (iblk m c 4 t) (codesAt m c) (scaleAt m c) (lowAt m c) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS]; · iexact HS
    iintro ⟨H0, H1, H2, H3, H4, H5, H6, H7, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iapply (leaves_6 m c t)
      iexact H6
    iapply (leaves_7 m c t)
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Pipeline.ΦA spec0 c from rfl]

/-- After the last point the invariant gives the scratch back at some contents. -/
theorem hout (c : Dev nD) : (dats m 0 c).Φ (Fin.last cfg0.N) ⊢ Pipeline.ΦA spec0 c := by
  rw [Phi_eq, PhiS_pos m c _ (by rw [Fin.val_last, show cfg0.N = 10 from N_0]; omega), PhiA_eq]
  iintro ⟨HS, Hg⟩
  isplitl [HS]
  · iexists _; iexact HS
  iexact Hg

set_option backward.isDefEq.respectTransparency.types false in
/-- The launch: every execution ends with every array at what the proof data say, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the argument arrays end unchanged, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Body

end
-- ==== Proof.KernelValue.lean ====
/-
  The idealized kernel's run: each input's block read off its array, and the codes and the scales as terms of the activations.
-/
module

public import proofs.«01_k».proof.Proof.KernelFrame
public import Idealize.ShloMosaic.Lib.Pipeline.ValueKit

@[expose] public section

set_option maxRecDepth 16384

noncomputable section

namespace Cert.KernelIdeal.Value

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen Cert.KernelIdeal.Body

variable {F : FTy → Type} [FloatOps F]
variable (m : (ℓ : Loc nD τ sig) → Buf (Elt F) ℓ) (ρ : Dev nD → PrngReg)

theorem idx_0 : ∀ t : Fin cfg0.N, win0_0.index t = ![0, 0] :=
  (by decide +kernel : ∀ t : Fin grid0.N, win0_0.index t = ![0, 0])
theorem idx_1 : ∀ t : Fin cfg0.N, win0_1.index t = ![0, t.val] :=
  (by decide +kernel : ∀ t : Fin grid0.N, win0_1.index t = ![0, t.val])
theorem idx_2 : ∀ t : Fin cfg0.N, win0_2.index t = ![0, t.val] :=
  (by decide +kernel : ∀ t : Fin grid0.N, win0_2.index t = ![0, t.val])
theorem idx_3 : ∀ t : Fin cfg0.N, win0_3.index t = ![0, 0] :=
  (by decide +kernel : ∀ t : Fin grid0.N, win0_3.index t = ![0, 0])
theorem idx_4 : ∀ t : Fin cfg0.N, win0_4.index t = ![0, t.val] :=
  (by decide +kernel : ∀ t : Fin grid0.N, win0_4.index t = ![0, t.val])
theorem idx_5 : ∀ t : Fin cfg0.N, win0_5.index t = ![0, t.val] :=
  (by decide +kernel : ∀ t : Fin grid0.N, win0_5.index t = ![0, t.val])
theorem idx_6 : ∀ t : Fin cfg0.N, win0_6.index t = ![0, 0] :=
  (by decide +kernel : ∀ t : Fin grid0.N, win0_6.index t = ![0, 0])
theorem idx_7 : ∀ t : Fin cfg0.N, win0_7.index t = ![0, 0] :=
  (by decide +kernel : ∀ t : Fin grid0.N, win0_7.index t = ![0, 0])

/-- Column `j` of tile `t` of the result is column `512 t + j`. -/
def col (t : Fin cfg0.N) (j : Fin 512) : Fin 5120 :=
  ⟨t.val * 512 + j.val, by have : t.val < 10 := lt_of_lt_of_eq t.isLt (show cfg0.N = 10 from N_0); omega⟩

/-- The last grid point. -/
def tLast : Fin cfg0.N := ⟨9, by rw [show cfg0.N = 10 from N_0]; omega⟩

/-! The activations and the first low-rank factor are staged whole; the other operands by column tiles. -/

theorem iblk_0 (c : Dev nD) (t : Fin cfg0.N) : iblk m c 0 t = V m c main_v0 := by
  unfold iblk
  funext j
  blk_ext [idx_0 t]

theorem iblk_3 (c : Dev nD) (t : Fin cfg0.N) : iblk m c 3 t = V m c main_arg3 := by
  unfold iblk
  funext j
  blk_ext [idx_3 t]

theorem iblk_1 (c : Dev nD) (t : Fin cfg0.N) (j : S6912x512.Idx) : iblk m c 1 t j = V m c main_arg1 (ix2 (j 0) (col t (j 1))) := by
  unfold iblk
  blk_ext [idx_1 t, col]

theorem iblk_2 (c : Dev nD) (t : Fin cfg0.N) (j : S1x512.Idx) : iblk m c 2 t j = V m c main_v1 (ix2 (j 0) (col t (j 1))) := by
  unfold iblk
  blk_ext [idx_2 t, col]

theorem iblk_4 (c : Dev nD) (t : Fin cfg0.N) (j : S16x512.Idx) : iblk m c 4 t j = V m c main_arg4 (ix2 (j 0) (col t (j 1))) := by
  unfold iblk
  blk_ext [idx_4 t, col]

theorem arr_6 (c : Dev nD) : (dats m 0 c).arrAt 6 cfg0.N = codesOf (V m c main_v0) := by
  refine (dats m 0 c).arrAt_eq_of_after_last 6 tLast (by decide +kernel) _ fun j => ?_
  blk_simp
  rw [after_6]
  unfold codesAt xAt
  rw [iblk_0]

theorem arr_7 (c : Dev nD) : (dats m 0 c).arrAt 7 cfg0.N = scaleOf (V m c main_v0) := by
  refine (dats m 0 c).arrAt_eq_of_after_last 7 tLast (by decide +kernel) _ fun j => ?_
  blk_simp
  rw [after_7]
  unfold scaleAt xAt
  rw [iblk_0]

/-- The result's array, from a function that every stored tile agrees with. -/
theorem arr_5 (c : Dev nD) (G : Vec F S384x5120 .bf16)
    (hG : ∀ (t : Fin cfg0.N) (j : S384x512.Idx), tileAt m c t j = G (ix2 (j 0) (col t (j 1)))) :
    (dats m 0 c).arrAt 5 cfg0.N = G := by
  refine (dats m 0 c).arrAt_eq_of_covers 5 _ (by decide +kernel) fun t hf y => ?_
  blk_simp
  rw [after_5]
  refine (hG t _).trans ?_
  blk_ext [idx_5 t, col]

end Cert.KernelIdeal.Value

end
-- ==== Proof.Pair.lean ====
/-
  The two runs side by side: from argument arrays that agree, the kernel's three result arrays and the reference's end equal.
-/
module

public import proofs.«01_k».proof.Proof.ResultEq
public import proofs.«01_k».proof.Proof.KernelValue
public import proofs.«01_k».proof.Proof.RefValue
public import Idealize.ShloMosaic.Lib.Claim

@[expose] public section

set_option maxRecDepth 16384

noncomputable section

namespace Cert.Quant

open Idealize.ShloMosaic Idealize.ShloMosaic.TcCoe Idealize.ShloMosaic.Tactic
open Idealize.SL Idealize.SL.Sem
open Idealize.ShloMosaic.Pipeline (Dat Cfg Window)

section Kernel
open Cert.KernelIdeal Cert.KernelIdeal.Gen
variable (m : (ℓ : Loc nD τ sig) → Buf (Elt Ideal) ℓ) (c : Dev nD)

/-- The activations as the kernel's region finds them. -/
theorem kentry_x : V m c main_v0 = shapeCast S384x6912 (m ((c.tc : Thread nD τ).loc main_arg0)) shapeCasts_S1x384x6912_S384x6912 := by
  entry_read
  try rfl

/-- The weights' scales as the kernel's region finds them. -/
theorem kentry_s : V m c main_v1 = shapeCast S1x5120 (m ((c.tc : Thread nD τ).loc main_arg2)) shapeCasts_S5120_S1x5120 := by
  entry_read
  try rfl

end Kernel

section Reference
open Cert.ReferenceIdeal Cert.ReferenceIdeal.Gen
variable (m : (ℓ : Loc nD τ sig) → Buf (Elt Ideal) ℓ) (c : Dev nD)

/-- The activations as the reference's region finds them. -/
theorem rentry_x : V m c main_v0 = shapeCast S384x6912 (m ((c.tc : Thread nD τ).loc main_arg0)) shapeCasts_S1x384x6912_S384x6912 := by
  entry_read
  try rfl

/-- The weights' scales as the reference's region finds them. -/
theorem rentry_s : V m c main_v1 = shapeCast S1x5120 (m ((c.tc : Thread nD τ).loc main_arg2)) shapeCasts_S5120_S1x5120 := by
  entry_read
  try rfl

/-- The table as the reference's region finds it. -/
theorem rentry_p : V m c main_cst = fun i => FloatOps.ofBits (F := Ideal) .f32 (lit0 (S1x253.rowMajor i)) := by
  entry_read
  try rfl

theorem rentry_p' (k : Fin 253) : V m c main_cst (ix2 0 k) = pw (k.val + 2) := by
  rw [rentry_p]
  exact table k

end Reference

section Pair
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two programs' argument arrays agree on device `c`. -/
def Agree : Prop :=
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)

variable (h : Agree m m' c)
include h

theorem agree_x : Cert.ReferenceIdeal.Gen.V m' c Cert.ReferenceIdeal.main_v0 = Cert.KernelIdeal.Gen.V m c Cert.KernelIdeal.main_v0 := by
  refine (rentry_x m' c).trans (Eq.trans ?_ (kentry_x m c).symm)
  rw [h.1]

theorem agree_s : Cert.ReferenceIdeal.Gen.V m' c Cert.ReferenceIdeal.main_v1 = Cert.KernelIdeal.Gen.V m c Cert.KernelIdeal.main_v1 := by
  refine (rentry_s m' c).trans (Eq.trans ?_ (kentry_s m c).symm)
  rw [h.2.2.1]

theorem agree_w : Cert.ReferenceIdeal.Gen.V m' c Cert.ReferenceIdeal.main_arg1 = Cert.KernelIdeal.Gen.V m c Cert.KernelIdeal.main_arg1 :=
  (Cert.ReferenceIdeal.Gen.V_main_arg1 m' c).trans (h.2.1.trans (Cert.KernelIdeal.Gen.V_main_arg1 m c).symm)

theorem agree_a : Cert.ReferenceIdeal.Gen.V m' c Cert.ReferenceIdeal.main_arg3 = Cert.KernelIdeal.Gen.V m c Cert.KernelIdeal.main_arg3 :=
  (Cert.ReferenceIdeal.Gen.V_main_arg3 m' c).trans (h.2.2.2.1.trans (Cert.KernelIdeal.Gen.V_main_arg3 m c).symm)

theorem agree_b : Cert.ReferenceIdeal.Gen.V m' c Cert.ReferenceIdeal.main_arg4 = Cert.KernelIdeal.Gen.V m c Cert.KernelIdeal.main_arg4 :=
  (Cert.ReferenceIdeal.Gen.V_main_arg4 m' c).trans (h.2.2.2.2.trans (Cert.KernelIdeal.Gen.V_main_arg4 m c).symm)

/-- The scales. -/
theorem pair_scale : (Cert.ReferenceIdeal.Gen.dats (F := Ideal) m' 0 c).arrAt 8 Cert.ReferenceIdeal.cfg0.N
    = (Cert.KernelIdeal.Body.dats (F := Ideal) m 0 c).arrAt 7 Cert.KernelIdeal.cfg0.N := by
  refine (Cert.ReferenceIdeal.Value.arr_8 m' c).trans (Eq.trans ?_ (Cert.KernelIdeal.Value.arr_7 m c).symm)
  rw [agree_x m m' c h]
  exact (scale_eq _ _ (rentry_p' m' c)).symm

/-- The codes. -/
theorem pair_codes : (Cert.ReferenceIdeal.Gen.dats (F := Ideal) m' 0 c).arrAt 7 Cert.ReferenceIdeal.cfg0.N
    = (Cert.KernelIdeal.Body.dats (F := Ideal) m 0 c).arrAt 6 Cert.KernelIdeal.cfg0.N := by
  refine (Cert.ReferenceIdeal.Value.arr_7 m' c).trans (Eq.trans ?_ (Cert.KernelIdeal.Value.arr_6 m c).symm)
  rw [agree_x m m' c h]
  exact (codes_eq _ _ (rentry_p' m' c)).symm

/-- The product. -/
theorem pair_y : (Cert.ReferenceIdeal.Gen.dats (F := Ideal) m' 0 c).arrAt 6 Cert.ReferenceIdeal.cfg0.N
    = (Cert.KernelIdeal.Body.dats (F := Ideal) m 0 c).arrAt 5 Cert.KernelIdeal.cfg0.N := by
  refine (Cert.ReferenceIdeal.Value.arr_6 m' c).trans (Eq.symm ?_)
  rw [agree_x m m' c h, agree_s m m' c h, agree_w m m' c h, agree_a m m' c h, agree_b m m' c h]
  refine Cert.KernelIdeal.Value.arr_5 m c _ fun t j => ?_
  unfold Cert.KernelIdeal.Body.tileAt Cert.KernelIdeal.Body.codesAt Cert.KernelIdeal.Body.lowAt Cert.KernelIdeal.Body.scaleAt Cert.KernelIdeal.Body.xAt
  rw [Cert.KernelIdeal.Value.iblk_0, Cert.KernelIdeal.Value.iblk_3]
  exact tile_eq _ _ (rentry_p' m' c) _ _ _ _ (Cert.KernelIdeal.Value.col t) _ (Cert.KernelIdeal.Value.iblk_1 m c t) _
    (Cert.KernelIdeal.Value.iblk_2 m c t) _ (Cert.KernelIdeal.Value.iblk_4 m c t) j

end Pair

end Cert.Quant

end
-- ==== Proof.BitsBody.lean ====
/-
  The body of the kernel as printed (before idealization), run once at its first point and once at any later point.
-/
module

public import proofs.«01_k».proof.Proof.Gen.Kernel.Frame
public import proofs.«01_k».proof.Proof.Gen.Kernel.Skeleton
public import Idealize.ShloMosaic.Lib.VecWindow
public import Idealize.ShloMosaic.Lib.Pipeline.ValueKit
public import Idealize.ShloMosaic.Lib.Claim

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The quantised activations of the block `x`. -/
def codesOf (x : Vec F S384x6912 .bf16) : Vec F S384x6912 .fp8e4m3 :=
  k0_pay1 (k0_pay4 x) (k0_pay10 (k0_pay5 x) (k0_pay6 x) (k0_pay7 x)) 127#32

/-- The scales of the rows of `x`. -/
def scaleOf (x : Vec F S384x6912 .bf16) : Vec F S384x1 .f32 :=
  k0_pay9 (k0_pay5 x) (k0_pay6 x) (k0_pay7 x)

/-- The low-rank product of `x` by the first adapter matrix. -/
def lowOf (x : Vec F S384x6912 .bf16) (a : Vec F S6912x16 .bf16) : Vec F S384x16 .bf16 :=
  k0_pay2 (k0_pay4 x) a

set_option maxHeartbeats 1000000 in
/-- The body at a LATER point: it reads the codes, the scales and the low-rank product that the first point left, leaves them in place, and stores
    its own column tile of the result. -/
theorem runB (c : Dev nD) (i : grid0.Coords) (arg1 : Memref sig .tc .vmem S384x6912 .bf16) (harg1 : arg1.IsWhole) (arg2 : Memref sig .tc .vmem S6912x512 .fp8e4m3) (harg2 : arg2.IsWhole) (arg3 : Memref sig .tc .vmem S1x512 .f32) (harg3 : arg3.IsWhole) (arg4 : Memref sig .tc .vmem S6912x16 .bf16) (harg4 : arg4.IsWhole) (arg5 : Memref sig .tc .vmem S16x512 .bf16) (harg5 : arg5.IsWhole) (arg6 : Memref sig .tc .vmem S384x512 .bf16) (harg6 : arg6.IsWhole) (arg7 : Memref sig .tc .vmem S384x6912 .fp8e4m3) (harg7 : arg7.IsWhole) (arg8 : Memref sig .tc .vmem S384x1 .f32) (harg8 : arg8.IsWhole) (arg9 : Memref sig .tc .vmem S384x16 .bf16) (harg9 : arg9.IsWhole) (hc0 : ¬k0_cond1 i = 1#1)
    (x0 : Vec F S384x6912 .bf16) (x1 : Vec F S6912x512 .fp8e4m3) (x2 : Vec F S1x512 .f32) (x3 : Vec F S6912x16 .bf16) (x4 : Vec F S16x512 .bf16) (xc : Vec F S384x6912 .fp8e4m3) (xs : Vec F S384x1 .f32) (xt : Vec F S384x16 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xc ∗ owns (c : Thread nD τ) arg8 fullShare xs ∗ owns (c : Thread nD τ) arg9 fullShare xt
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay3 xc x1 xt x4 xs x2) ∗ owns (c : Thread nD τ) arg7 fullShare xc ∗ owns (c : Thread nD τ) arg8 fullShare xs ∗ owns (c : Thread nD τ) arg9 fullShare xt) -∗ K ⟨⟩))
      ⊢ wp frame (wpE (defs₀ (F := F)) Variants.none c none) E (cc0_fp8_linear_lora i arg1 harg1 arg2 harg2 arg3 harg3 arg4 harg4 arg5 harg5 arg6 harg6 arg7 harg7 arg8 harg8 arg9 harg9) K := by
  simp only [cc0_fp8_linear_lora_eq_skeleton]; unfold cc0_fp8_linear_lora_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
  obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7; obtain rfl := harg9.eq_unread hf8
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro; (refine (View.read_writes_full _ _ _ _ _).trans ?_; sl_unfold_words; simp (disch := decide) only [View.readAt_eq_ld, View.ld_unit_lit', View.readCov_cons_unit_lit', Memref.IsWhole.read_unread]; try rfl)
  isplitl [H6]
  · iexists _; isplitr; · ipureintro; exact harg7.read_unread _
    iexact H6
  isplitl [H7]
  · iexists _; isplitr; · ipureintro; exact harg8.read_unread _
    iexact H7
  iexists _; isplitr; · ipureintro; exact harg9.read_unread _
  iexact H8

set_option maxHeartbeats 1000000 in
/-- The body at the FIRST point: from the inputs' staging memrefs at their blocks and the outputs' and the scratch at anything, it leaves the quantised
    activations, their scales, the low-rank product in the scratch, and the first column tile of the result. -/
theorem runA (c : Dev nD) (i : grid0.Coords) (arg1 : Memref sig .tc .vmem S384x6912 .bf16) (harg1 : arg1.IsWhole) (arg2 : Memref sig .tc .vmem S6912x512 .fp8e4m3) (harg2 : arg2.IsWhole) (arg3 : Memref sig .tc .vmem S1x512 .f32) (harg3 : arg3.IsWhole) (arg4 : Memref sig .tc .vmem S6912x16 .bf16) (harg4 : arg4.IsWhole) (arg5 : Memref sig .tc .vmem S16x512 .bf16) (harg5 : arg5.IsWhole) (arg6 : Memref sig .tc .vmem S384x512 .bf16) (harg6 : arg6.IsWhole) (arg7 : Memref sig .tc .vmem S384x6912 .fp8e4m3) (harg7 : arg7.IsWhole) (arg8 : Memref sig .tc .vmem S384x1 .f32) (harg8 : arg8.IsWhole) (arg9 : Memref sig .tc .vmem S384x16 .bf16) (harg9 : arg9.IsWhole) (hc0 : k0_cond1 i = 1#1)
    (x0 : Vec F S384x6912 .bf16) (x1 : Vec F S6912x512 .fp8e4m3) (x2 : Vec F S1x512 .f32) (x3 : Vec F S6912x16 .bf16) (x4 : Vec F S16x512 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay3 (codesOf x0) x1 (lowOf x0 x3) x4 (scaleOf x0) x2) ∗ owns (c : Thread nD τ) arg7 fullShare (codesOf x0) ∗ owns (c : Thread nD τ) arg8 fullShare (scaleOf x0) ∗ owns (c : Thread nD τ) arg9 fullShare (lowOf x0 x3)) -∗ K ⟨⟩))
      ⊢ wp frame (wpE (defs₀ (F := F)) Variants.none c none) E (cc0_fp8_linear_lora i arg1 harg1 arg2 harg2 arg3 harg3 arg4 harg4 arg5 harg5 arg6 harg6 arg7 harg7 arg8 harg8 arg9 harg9) K := by
  simp only [cc0_fp8_linear_lora_eq_skeleton]; unfold cc0_fp8_linear_lora_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro; (refine (View.read_writes_full _ _ _ _ _).trans ?_; sl_unfold_words; simp (disch := decide) only [View.readAt_eq_ld, View.ld_unit_lit', View.readCov_cons_unit_lit', Memref.IsWhole.read_unread]; try rfl)
  isplitl [H6]
  · iexists _; isplitr; swap; · iexact H6
    ipureintro; (refine (View.read_writes_full _ _ _ _ _).trans ?_; sl_unfold_words; simp (disch := decide) only [View.readAt_eq_ld, View.ld_unit_lit', View.readCov_cons_unit_lit', Memref.IsWhole.read_unread]; try rfl)
  isplitl [H7]
  · iexists _; isplitr; swap; · iexact H7
    ipureintro; (refine (View.read_writes_full _ _ _ _ _).trans ?_; sl_unfold_words; simp (disch := decide) only [View.readAt_eq_ld, View.ld_unit_lit', View.readCov_cons_unit_lit', Memref.IsWhole.read_unread]; try rfl)
  iexists _; isplitr; swap; · iexact H8
  ipureintro; (refine (View.read_writes_full _ _ _ _ _).trans ?_; sl_unfold_words; simp (disch := decide) only [View.readAt_eq_ld, View.ld_unit_lit', View.readCov_cons_unit_lit', Memref.IsWhole.read_unread]; try rfl)

end Cert.Kernel.Body

end
-- ==== Proof.BitsFrame.lean ====
/-
  The run of the kernel as printed (before idealization): what each window holds after each point (the codes, the scales and the low-rank product are
  those of the first point throughout), the body obligation, the launch and the frame.
-/
module

public import proofs.«01_k».proof.Proof.Gen.Kernel.Frame
public import proofs.«01_k».proof.Proof.BitsBody
public import Idealize.ShloMosaic.Lib.Pipeline.TableIdle
public import Idealize.ShloMosaic.Lib.VecWindow
public import Idealize.ShloMosaic.Lib.Pipeline.ValueKit
public import Idealize.ShloMosaic.Lib.Claim

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
def t0 : Fin cfg0.N := ⟨0, by rw [show cfg0.N = 10 from N_0]; omega⟩

/-- The body's condition holds at the first point only. -/
theorem cond_iff : ∀ t : Fin cfg0.N, k0_cond1 (grid0.coords t) = 1#1 ↔ t.val = 0 :=
  (by decide +kernel : ∀ t : Fin grid0.N, k0_cond1 (grid0.coords t) = 1#1 ↔ t.val = 0)

/-- The activations as the first point finds them. -/
abbrev xAt (c : Dev nD) : Vec F S384x6912 .bf16 := iblk m c 0 t0
/-- The codes the first point stores. -/
def codesAt (c : Dev nD) : Vec F S384x6912 .fp8e4m3 := codesOf (xAt m c)
/-- The scales the first point stores. -/
def scaleAt (c : Dev nD) : Vec F S384x1 .f32 := scaleOf (xAt m c)
/-- The low-rank product the first point stores in the scratch. -/
def lowAt (c : Dev nD) : Vec F S384x16 .bf16 := lowOf (xAt m c) (iblk m c 3 t0)
/-- The column tile of the result that point `t` stores. -/
def tileAt (c : Dev nD) (t : Fin cfg0.N) : Vec F S384x512 .bf16 :=
  k0_pay3 (codesAt m c) (iblk m c 1 t) (lowAt m c) (iblk m c 4 t) (scaleAt m c) (iblk m c 2 t)

/-- Each window's current staging memref at point `t`, spelled as the pipeline passes it. -/
abbrev ms0 (t : Fin cfg0.N) : Memref sig .tc .vmem S384x6912 .bf16 := win0_0.stage (cfg0.slots t 0)
abbrev ms1 (t : Fin cfg0.N) : Memref sig .tc .vmem S6912x512 .fp8e4m3 := win0_1.stage (cfg0.slots t 1)
abbrev ms2 (t : Fin cfg0.N) : Memref sig .tc .vmem S1x512 .f32 := win0_2.stage (cfg0.slots t 2)
abbrev ms3 (t : Fin cfg0.N) : Memref sig .tc .vmem S6912x16 .bf16 := win0_3.stage (cfg0.slots t 3)
abbrev ms4 (t : Fin cfg0.N) : Memref sig .tc .vmem S16x512 .bf16 := win0_4.stage (cfg0.slots t 4)
abbrev ms5 (t : Fin cfg0.N) : Memref sig .tc .vmem S384x512 .bf16 := win0_5.stage (cfg0.slots t 5)
abbrev ms6 (t : Fin cfg0.N) : Memref sig .tc .vmem S384x6912 .fp8e4m3 := win0_6.stage (cfg0.slots t 6)
abbrev ms7 (t : Fin cfg0.N) : Memref sig .tc .vmem S384x1 .f32 := win0_7.stage (cfg0.slots t 7)
/-- The scratch operand: a whole scoped buffer of the kernel's own. -/
abbrev scM : Memref sig .tc .vmem S384x16 .bf16 := Memref.whole cc0_scratch0

/-- The class's invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The invariant before position `n`: at the start the scratch at anything; afterwards at the low-rank product. -/
def PhiS (c : Dev nD) : ℕ → sProp 𝕄
  | 0 => Pipeline.ΦA spec0 c
  | _ + 1 => iprop(owns (c : Thread nD τ) scM fullShare (lowAt m c) ∗ (∃ r, prngReg c r))

theorem PhiS_pos (c : Dev nD) (n : ℕ) (h : n ≠ 0) :
    PhiS m c n = iprop(owns (c : Thread nD τ) scM fullShare (lowAt m c) ∗ (∃ r, prngReg c r)) := by
  cases n with
  | zero => exact absurd rfl h
  | succ n => rfl

/-- The proof data of the pipeline on core `c`: each input's buffer keeps its block; the result's holds the point's tile; the codes'
    and the scales' hold what the first point stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => tileAt m c t
    | ⟨6, _⟩ => codesAt m c
    | ⟨7, _⟩ => scaleAt m c
  Φ t := PhiS m c t.val
  q _ := fullShare
  owed _ := 0

theorem A_eq (c : Dev nD) (w : Fin cfg0.W) : (dats m 0 c).A w = V m c (Pipeline.arrRef spec0 w) := by
  dsimp only [dats]

theorem Phi_eq (c : Dev nD) (t : Fin (cfg0.N + 1)) : (dats m 0 c).Φ t = PhiS m c t.val := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = tileAt m c t := by dsimp only [dats]
theorem after_6 (c : Dev nD) (t : Fin cfg0.N) : (dats m 0 c).after 6 t = codesAt m c := by dsimp only [dats]
theorem after_7 (c : Dev nD) (t : Fin cfg0.N) : (dats m 0 c).after 7 t = scaleAt m c := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
/-- Output 6 is stored at the first point only. -/
theorem idle_6 : ∀ t : Fin cfg0.N, cfg0.idle 6 (grid0.coords t) = decide (t.val ≠ 0) :=
  (by decide +kernel : ∀ t : Fin grid0.N, cfg0.idle 6 (grid0.coords t) = decide (t.val ≠ 0))

theorem fresh_6 (t : Fin cfg0.N) (hz : t.val ≠ 0) : cfg0.fresh 6 t.val = false :=
  (by decide +kernel : ∀ t : Fin grid0.N, t.val ≠ 0 → cfg0.fresh 6 t.val = false) t hz

/-- After the first point the buffer of output 6 holds what that point left: it is not written back in between. -/
theorem before_6 (c : Dev nD) (t : Fin cfg0.N) (hz : t.val ≠ 0) (d) : (dats m 0 c).before 6 t d = codesAt m c := by
  rw [Dat.before_out_traj _ 6 rfl (fun _ _ => rfl) (fun _ _ _ _ => by rw [after_6, after_6]) t.val t rfl d, fresh_6 t hz,
    if_neg Bool.false_ne_true, after_6]

theorem leaves_6 (c : Dev nD) (t : Fin cfg0.N) :
    owns (c : Thread nD τ) (ms6 t) fullShare (codesAt m c) ⊢ (dats m 0 c).leavesExact 6 t := by
  unfold Dat.leavesExact
  rw [idle_6, after_6]
  by_cases hz : t.val = 0
  · rw [decide_eq_false (by simpa using hz)]
  · rw [decide_eq_true hz]
    cases (cfg0.win 6).flush t
    · dsimp only
      iintro H
      iexists (codesAt m c)
      rw [before_6 m c t hz]
      iexact H
    · exact .rfl
/-- Output 7 is stored at the first point only. -/
theorem idle_7 : ∀ t : Fin cfg0.N, cfg0.idle 7 (grid0.coords t) = decide (t.val ≠ 0) :=
  (by decide +kernel : ∀ t : Fin grid0.N, cfg0.idle 7 (grid0.coords t) = decide (t.val ≠ 0))

theorem fresh_7 (t : Fin cfg0.N) (hz : t.val ≠ 0) : cfg0.fresh 7 t.val = false :=
  (by decide +kernel : ∀ t : Fin grid0.N, t.val ≠ 0 → cfg0.fresh 7 t.val = false) t hz

/-- After the first point the buffer of output 7 holds what that point left: it is not written back in between. -/
theorem before_7 (c : Dev nD) (t : Fin cfg0.N) (hz : t.val ≠ 0) (d) : (dats m 0 c).before 7 t d = scaleAt m c := by
  rw [Dat.before_out_traj _ 7 rfl (fun _ _ => rfl) (fun _ _ _ _ => by rw [after_7, after_7]) t.val t rfl d, fresh_7 t hz,
    if_neg Bool.false_ne_true, after_7]

theorem leaves_7 (c : Dev nD) (t : Fin cfg0.N) :
    owns (c : Thread nD τ) (ms7 t) fullShare (scaleAt m c) ⊢ (dats m 0 c).leavesExact 7 t := by
  unfold Dat.leavesExact
  rw [idle_7, after_7]
  by_cases hz : t.val = 0
  · rw [decide_eq_false (by simpa using hz)]
  · rw [decide_eq_true hz]
    cases (cfg0.win 7).flush t
    · dsimp only
      iintro H
      iexists (scaleAt m c)
      rw [before_7 m c t hz]
      iexact H
    · exact .rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ (dats m 0 c).leavesExact 6 t
    ∗ (dats m 0 c).leavesExact 7 t)

set_option maxHeartbeats 6400000 in
/-- The body at any point: the first by `runA`, a later one by `runB`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl,
    after_0, after_1, after_2, after_3, after_4, after_5, Phi_eq, Phi_eq,
    PhiS_pos m c t.succ.val (by rw [Fin.val_succ]; omega), Fin.val_castSucc]
  by_cases hz : t.val = 0
  · obtain rfl : t = t0 := Fin.ext hz
    rw [show PhiS m c (t0 : Fin cfg0.N).val = Pipeline.ΦA spec0 c from rfl, PhiA_eq]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runA c (grid0.coords t0) _ _ _ _ _ _ _ _ _ _ _ _ _ _ _ _ _ _ ((cond_iff t0).mpr rfl) (iblk m c 0 t0) (iblk m c 1 t0) (iblk m c 2 t0) (iblk m c 3 t0) (iblk m c 4 t0) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS]; · iexact HS
    iintro ⟨H0, H1, H2, H3, H4, H5, H6, H7, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iapply (leaves_6 m c t0)
      iexact H6
    iapply (leaves_7 m c t0)
    iexact H7
  · rw [PhiS_pos m c t.val hz]
    simp only [before_6 m c t hz, before_7 m c t hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runB c (grid0.coords t) _ _ _ _ _ _ _ _ _ _ _ _ _ _ _ _ _ _ (fun h => hz ((cond_iff t).mp h)) (iblk m c 0 t) (iblk m c 1 t) (iblk m c 2 t) (iblk m c 3 t) (iblk m c 4 t) (codesAt m c) (scaleAt m c) (lowAt m c) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS]; · iexact HS
    iintro ⟨H0, H1, H2, H3, H4, H5, H6, H7, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iapply (leaves_6 m c t)
      iexact H6
    iapply (leaves_7 m c t)
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Pipeline.ΦA spec0 c from rfl]

/-- After the last point the invariant gives the scratch back at some contents. -/
theorem hout (c : Dev nD) : (dats m 0 c).Φ (Fin.last cfg0.N) ⊢ Pipeline.ΦA spec0 c := by
  rw [Phi_eq, PhiS_pos m c _ (by rw [Fin.val_last, show cfg0.N = 10 from N_0]; omega), PhiA_eq]
  iintro ⟨HS, Hg⟩
  isplitl [HS]
  · iexists _; iexact HS
  iexact Hg

set_option backward.isDefEq.respectTransparency.types false in
/-- The launch: every execution ends with every array at what the proof data say, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the argument arrays end unchanged, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Body

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Pair
public import proofs.«01_k».proof.Proof.BitsFrame
public import Idealize.ShloMosaic.Adequacy
public import Idealize.ShloMosaic.Init

@[expose] public section

noncomputable section

namespace Cert.Proof

open Idealize.ShloMosaic Idealize.SL.Sem Cert.Kernel

/-- Over the extended reals the kernel and the reference, from the same arguments, end with the same three results. -/
theorem algebraic : Cert.algebraic_KernelIdeal_ReferenceIdeal := by
  pair_intro
  · run_from Cert.KernelIdeal.Body.run_main m g
  · run_from Cert.ReferenceIdeal.Gen.run_main m' g'
    · exact Cert.Quant.pair_y m m' c (hagree c)
    · exact Cert.Quant.pair_codes m m' c (hagree c)
    · exact Cert.Quant.pair_scale m m' c (hagree c)

/-- The claims: the frames, each by the frame certificate of its program; the idealization rewrote nothing; the two programs' results agree. -/
theorem claim : Cert.Claim := ⟨Cert.Kernel.Gen.facts, Cert.KernelIdeal.Gen.facts, Cert.ReferenceIdeal.Gen.facts,
  fun m ρ _ => Cert.Kernel.Body.frame m ρ, fun m ρ _ => Cert.KernelIdeal.Body.frame m ρ,
  fun m ρ _ => Cert.ReferenceIdeal.Gen.frame m ρ, trivial, algebraic⟩

end Cert.Proof

end
